-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x1280 : Shape := ⟨3, ![3, 8192, 1280]⟩
abbrev S3x8192x1 : Shape := ⟨3, ![3, 8192, 1]⟩
abbrev S5120x1280 : Shape := ⟨2, ![5120, 1280]⟩
abbrev S5120 : Shape := ⟨1, ![5120]⟩
abbrev S24576x1280 : Shape := ⟨2, ![24576, 1280]⟩
abbrev S48x1x512 : Shape := ⟨3, ![48, 1, 512]⟩
abbrev S1x5120 : Shape := ⟨2, ![1, 5120]⟩
abbrev S24576x5120 : Shape := ⟨2, ![24576, 5120]⟩
abbrev S512x1280 : Shape := ⟨2, ![512, 1280]⟩
abbrev S1x1x512 : Shape := ⟨3, ![1, 1, 512]⟩
abbrev S512x5120 : Shape := ⟨2, ![512, 5120]⟩
abbrev S512x128 : Shape := ⟨2, ![512, 128]⟩
abbrev S1x1x128 : Shape := ⟨3, ![1, 1, 128]⟩
abbrev S1x128 : Shape := ⟨2, ![1, 128]⟩
abbrev S128x128 : Shape := ⟨2, ![128, 128]⟩
abbrev S512x256 : Shape := ⟨2, ![512, 256]⟩
abbrev S256x1280 : Shape := ⟨2, ![256, 1280]⟩
abbrev S1x256 : Shape := ⟨2, ![1, 256]⟩
abbrev S128 : Shape := ⟨1, ![128]⟩

abbrev nBuf : Space → Nat
  | .hbm => 11
  | .vmem => 15
  | .smem => 0
  | _ => 0

abbrev bufTy : (tb : Table) → Fin (tcTables nBuf tb) → BufTy
  | .hbm, ⟨0, _⟩ => ⟨S3x8192x1280, .fp8e4m3⟩
  | .hbm, ⟨1, _⟩ => ⟨S3x8192x1, .f32⟩
  | .hbm, ⟨2, _⟩ => ⟨S5120x1280, .fp8e4m3⟩
  | .hbm, ⟨3, _⟩ => ⟨S5120, .f32⟩
  | .hbm, ⟨4, _⟩ => ⟨S5120, .bf16⟩
  | .hbm, ⟨5, _⟩ => ⟨S24576x1280, .fp8e4m3⟩
  | .hbm, ⟨6, _⟩ => ⟨S48x1x512, .f32⟩
  | .hbm, ⟨7, _⟩ => ⟨S1x5120, .f32⟩
  | .hbm, ⟨8, _⟩ => ⟨S1x5120, .bf16⟩
  | .hbm, ⟨9, _⟩ => ⟨S24576x5120, .fp8e4m3⟩
  | .hbm, ⟨10, _⟩ => ⟨S48x1x512, .f32⟩
  | .local _ .vmem, ⟨0, _⟩ => ⟨S512x1280, .fp8e4m3⟩
  | .local _ .vmem, ⟨1, _⟩ => ⟨S512x1280, .fp8e4m3⟩
  | .local _ .vmem, ⟨2, _⟩ => ⟨S1x1x512, .f32⟩
  | .local _ .vmem, ⟨3, _⟩ => ⟨S1x1x512, .f32⟩
  | .local _ .vmem, ⟨4, _⟩ => ⟨S5120x1280, .fp8e4m3⟩
  | .local _ .vmem, ⟨5, _⟩ => ⟨S1x5120, .f32⟩
  | .local _ .vmem, ⟨6, _⟩ => ⟨S1x5120, .bf16⟩
  | .local _ .vmem, ⟨7, _⟩ => ⟨S512x5120, .fp8e4m3⟩
  | .local _ .vmem, ⟨8, _⟩ => ⟨S512x5120, .fp8e4m3⟩
  | .local _ .vmem, ⟨9, _⟩ => ⟨S1x1x512, .f32⟩
  | .local _ .vmem, ⟨10, _⟩ => ⟨S1x1x512, .f32⟩
  | .local _ .vmem, ⟨11, _⟩ => ⟨S512x5120, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S3x8192x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c48_i32 : BitVec 32 := 48#32
  let v0 : BitVec 1 := Scalar.cmpi .slt arg0 c48_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c48_i32_0 : BitVec 32 := 48#32
  let v3 : BitVec 1 := Scalar.cmpi .eq arg0 c48_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "ln2" => some ((Real.log 2 : ℝ) : EReal)
  | "sqrt_half" => some ((Real.sqrt (1 / 2) : ℝ) : EReal)
  | _ => none
-- ==== ReferenceIdeal.lean ====
abbrev S3x8192x1280 : Shape := ⟨3, ![3, 8192, 1280]⟩
abbrev S3x8192x1 : Shape := ⟨3, ![3, 8192, 1]⟩
abbrev S5120x1280 : Shape := ⟨2, ![5120, 1280]⟩
abbrev S5120 : Shape := ⟨1, ![5120]⟩
abbrev S24576x1280 : Shape := ⟨2, ![24576, 1280]⟩
abbrev S24576x1 : Shape := ⟨2, ![24576, 1]⟩
abbrev S1x5120 : Shape := ⟨2, ![1, 5120]⟩
abbrev S24576x5120 : Shape := ⟨2, ![24576, 5120]⟩
abbrev S48x1x512 : Shape := ⟨3, ![48, 1, 512]⟩
abbrev S24576 : Shape := ⟨1, ![24576]⟩

abbrev nBuf : Space → Nat
  | .hbm => 11
  | .vmem => 7
  | .smem => 0
  | _ => 0

abbrev bufTy : (tb : Table) → Fin (tcTables nBuf tb) → BufTy
  | .hbm, ⟨0, _⟩ => ⟨S3x8192x1280, .fp8e4m3⟩
  | .hbm, ⟨1, _⟩ => ⟨S3x8192x1, .f32⟩
  | .hbm, ⟨2, _⟩ => ⟨S5120x1280, .fp8e4m3⟩
  | .hbm, ⟨3, _⟩ => ⟨S5120, .f32⟩
  | .hbm, ⟨4, _⟩ => ⟨S5120, .bf16⟩
  | .hbm, ⟨5, _⟩ => ⟨S24576x1280, .fp8e4m3⟩
  | .hbm, ⟨6, _⟩ => ⟨S24576x1, .f32⟩
  | .hbm, ⟨7, _⟩ => ⟨S1x5120, .f32⟩
  | .hbm, ⟨8, _⟩ => ⟨S1x5120, .bf16⟩
  | .hbm, ⟨9, _⟩ => ⟨S24576x5120, .fp8e4m3⟩
  | .hbm, ⟨10, _⟩ => ⟨S48x1x512, .f32⟩
  | .local _ .vmem, ⟨0, _⟩ => ⟨S24576x1280, .fp8e4m3⟩
  | .local _ .vmem, ⟨1, _⟩ => ⟨S24576x1, .f32⟩
  | .local _ .vmem, ⟨2, _⟩ => ⟨S5120x1280, .fp8e4m3⟩
  | .local _ .vmem, ⟨3, _⟩ => ⟨S1x5120, .f32⟩
  | .local _ .vmem, ⟨4, _⟩ => ⟨S1x5120, .bf16⟩
  | .local _ .vmem, ⟨5, _⟩ => ⟨S24576x5120, .fp8e4m3⟩
  | .local _ .vmem, ⟨6, _⟩ => ⟨S48x1x512, .f32⟩
  | _, _ => ⟨S3x8192x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | "sqrt_half" => some ((Real.sqrt (1 / 2) : ℝ) : EReal)
  | _ => none

abbrev grid0 : Pipeline.Grid := .none

abbrev stage0_0 : Fin 1 → Memref sig .tc .vmem S24576x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KB.Runs.lean ====
/-
  The kernel as printed: the conditions of its body and the staging buffers of each grid point, for its frame.
-/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 48 — decided over the grid. -/
theorem hcond0_0 : ∀ t : Fin cfg0.N, cond0_0 (grid0.coords t) ↔ t.val < 48 :=
  (by decide +kernel : ∀ t : Fin grid0.N, cond0_0 (grid0.coords t) ↔ t.val < 48)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_1, k0_cond2, e0]
    word_cmp
   : ∀ t : Fin grid0.N, cond0_1 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x5120 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KB.Body.lean ====
/-
  The kernel as printed: its body runs at every grid point, leaves the five inputs' blocks as it finds them, and returns the output
  windows and the scratch buffers at some contents.
-/
module

public import proofs.«01_k».proof.Proof.KB.Runs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: checking it walks past the default budget)
set_option maxHeartbeats 1812000 in
/-- The body at a point before the last (`scf.if` 0 taken, `scf.if` 1 not taken): the inputs stay, the rest holds something. -/
theorem kernelRun0_A (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
    (x0 : Vec F S512x1280 .fp8e4m3) (x1 : Vec F S1x1x512 .f32) (x2 : Vec F S5120x1280 .fp8e4m3) (x3 : Vec F S1x5120 .f32) (x4 : Vec F S1x5120 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fp8_linear_gelu_fp8 i arg1 harg1 arg2 harg2 arg3 harg3 arg4 harg4 arg5 harg5 arg6 harg6 arg7 harg7 arg8 harg8 arg9 harg9 arg10 harg10 arg11 harg11) K := by
  simp only [cc0_fp8_linear_gelu_fp8_eq_skeleton]; unfold cc0_fp8_linear_gelu_fp8_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

-- (the run's proof term is large: checking it walks past the default budget)
set_option maxHeartbeats 1000000 in
/-- The body at the last point (`scf.if` 1 taken only): the inputs stay, the rest holds something. -/
theorem kernelRun0_B (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : ¬cond0_0 i) (hc1 : cond0_1 i)
    (x0 : Vec F S512x1280 .fp8e4m3) (x1 : Vec F S1x1x512 .f32) (x2 : Vec F S5120x1280 .fp8e4m3) (x3 : Vec F S1x5120 .f32) (x4 : Vec F S1x5120 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fp8_linear_gelu_fp8 i arg1 harg1 arg2 harg2 arg3 harg3 arg4 harg4 arg5 harg5 arg6 harg6 arg7 harg7 arg8 harg8 arg9 harg9 arg10 harg10 arg11 harg11) K := by
  simp only [cc0_fp8_linear_gelu_fp8_eq_skeleton]; unfold cc0_fp8_linear_gelu_fp8_skel
  simp only [k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.Kernel.Hand

end
-- ==== Proof.KB.Frame.lean ====
/-
  The frame of the kernel as printed: every run terminates, faults nowhere, leaves the arguments as they are and every semaphore at
  zero. Of the two outputs and of the scratch buffers nothing is said.
-/
module

public import proofs.«01_k».proof.Proof.KB.Body
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Nothing is said of what the body leaves in the outputs. -/
def Rl (w : Fin cfg0.W) (t : Fin cfg0.N) (X : (cfg0.win w).block.Idx → Elt F (cfg0.win w).elt) : Prop := True

/-- The windows of which nothing is said: the two outputs. -/
def fgt0 : Fin cfg0.W → Bool := fun w => w.val == 5 || w.val == 6

/-- The proof data: inputs at their blocks, the scratch buffers at anything between the points. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are the region-entry contents. -/
theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d

/-! ## The body obligation -/

/-- What the body is called with at point `t`, the windows one by one, -/
def bodyPre (c : Dev nD) (t : Fin cfg0.N) : sProp 𝕄 :=
  iprop((Pipeline.ΦA spec0 c : sProp 𝕄) ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ Y, ⌜((dat m c).toRRel fgt0 Rl).Finds 5 t Y⌝ ∗ owns (c : Thread nD τ) (ms0_5 t) fullShare Y)
    ∗ (∃ Y, ⌜((dat m c).toRRel fgt0 Rl).Finds 6 t Y⌝ ∗ owns (c : Thread nD τ) (ms0_6 t) fullShare Y))

/-- and what it returns. -/
def bodyPost (c : Dev nD) (t : Fin cfg0.N) : sProp 𝕄 :=
  iprop((Pipeline.ΦA spec0 c : sProp 𝕄) ∗ (dat m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ X, ⌜Rl 5 t X⌝ ∗ owns (c : Thread nD τ) (ms0_5 t) fullShare X)
    ∗ (∃ X, ⌜Rl 6 t X⌝ ∗ owns (c : Thread nD τ) (ms0_6 t) fullShare X))

set_option maxHeartbeats 1600000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dat m c).owesAt () t.succ = (dat m c).owesAt () t.castSucc from rfl, PhiA0_eq]
  have hN : t.val < 49 := lt_of_lt_of_eq t.isLt (show cfg0.N = 49 from N_0)
  by_cases h0 : t.val < 48
  · have h1 : ¬ t.val % 49 = 48 := by omega
    iintro ⟨⟨⟨HS0, HS1, HS2, HS3⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%f5, H5⟩, ⟨%f6, H6⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists f5; isplitr; · ipureintro; trivial
      iexact H5
    iexists f6; isplitr; · ipureintro; trivial
    iexact H6
  · have h1 : t.val % 49 = 48 := by omega
    iintro ⟨⟨⟨HS0, HS1, HS2, HS3⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%f5, H5⟩, ⟨%f6, H6⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists f5; isplitr; · ipureintro; trivial
      iexact H5
    iexists f6; isplitr; · ipureintro; trivial
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, nothing said of the outputs. -/
theorem body_obligation (c : Dev nD) : Pipeline.BodyObligationRel (dat m c) (defs₀ (F := F)) Variants.none () Set.univ fgt0 Rl := fun t => by
  rw [bigSep_W0, bigSep_W0, defs₀_row]
  exact triple_restated (sound_body m c t) rfl .rfl fun _ => .rfl

/-! ## The run and the frame -/

/-- The relational proof data of the run. -/
abbrev rdat (c : Dev nD) : Pipeline.RDat τ (Elt F) Unit ℕ (UR sig nD τ) ℕ cfg0 c := (dat m c).toRRel fgt0 Rl

set_option backward.isDefEq.respectTransparency.types false in
/-- The launch: every execution terminates with the arrays as the proof data says and every semaphore at zero. -/
theorem run_main_quiescent : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := fun _ => .rfl) (hout := fun _ => .rfl)

/-- The arguments are unchanged after the run. -/
theorem args (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame claim: the arguments unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args m r h.1, h.2⟩) (run_main_quiescent m ρ)

end Cert.Kernel.Hand

end
-- ==== Proof.KI.Pay.lean ====
/-
  What the idealized kernel's vector expressions are at an index: the GELU of one chunk, the codes, the lane maxima, the row scales.
-/
module

public import proofs.«01_k».proof.Proof.Gen.KernelIdeal.Skeleton
public import Idealize.ShloMosaic.Lib.Pointwise
public import Idealize.ShloMosaic.Lib.ValueLayout
public import Idealize.ShloMosaic.Lib.WholeRead

@[expose] public section

set_option maxRecDepth 16384

noncomputable section

namespace Cert.KernelIdeal.Hand

open Idealize.ShloMosaic Idealize.SL.Sem
open Cert.KernelIdeal Cert.KernelIdeal.Gen

/-- The square root of one half, the kernel's named constant. -/
abbrev rt : EReal := @Named.named Ideal _ _ κ "sqrt_half" .f32 0x3F3504F3#32

/-- The scaled pre-activation from one product sum: `acc·xs·(ws·√½) + b·√½`. -/
def zS (acc xs ws b : EReal) : EReal := acc * xs * (ws * rt) + b * rt

/-- The unnormalised GELU of a scaled pre-activation: `z·(1 + erf z)`. -/
def gS (z : EReal) : EReal := z * (1 + FloatOps.erf (F := Ideal) (φ := .f32) z)

/-- The GELU tile of the blocks of one grid point. -/
def gT (x0 : Vec Ideal S512x1280 .fp8e4m3) (x1 : Vec Ideal S1x1x512 .f32) (x2 : Vec Ideal S5120x1280 .fp8e4m3) (x3 : Vec Ideal S1x5120 .f32)
    (x4 : Vec Ideal S1x5120 .bf16) : S512x5120.Idx → EReal := fun j =>
  gS (zS (∑ k : Fin 1280, x0 (ix2 (j 0) k) * x2 (ix2 (j 1) k)) (x1 (ix3 0 0 (j 0))) (x3 (ix2 0 (j 1))) (x4 (ix2 0 (j 1))))

/-- One chunk's GELU payload at an index, its row factors given by `f`. -/
theorem pay10_apply (x : Vec Ideal S512x1280 .fp8e4m3) (w : Vec Ideal S256x1280 .fp8e4m3) (ws : Vec Ideal S1x256 .f32) (b : Vec Ideal S1x256 .bf16)
    (xs : Vec Ideal S512x128 .f32) (f : Fin 512 → EReal) (hf : ∀ r l, xs (ix2 r l) = f r) (j : S512x256.Idx) :
    k0_pay10 (F := Ideal) x w ws b xs j = gS (zS (∑ k : Fin 1280, x (ix2 (j 0) k) * w (ix2 (j 1) k)) (f (j 0)) (ws (ix2 0 (j 1))) (b (ix2 0 (j 1)))) := by
  unfold_payloads
  pointwise [dot_S512x1280_S256x1280_S512x256_1_1_0_0_n_n, hf]
  simp only [dite_eq_ite, ite_self]
  rfl

/-- The codes of one element: the clamped product. -/
def qS (g inv : EReal) : EReal := min (Ideal.ofBits .f32 0x43E00000#32) (max (Ideal.ofBits .f32 0xC3E00000#32) (g * inv))

/-- One chunk's codes payload at an index, its row factors given by `f`. -/
theorem pay3_apply (v196 : Vec Ideal S512x128 .f32) (v198 : Vec Ideal S512x256 .f32) (f : Fin 512 → EReal) (hf : ∀ r l, v196 (ix2 r l) = f r)
    (j : S512x256.Idx) : k0_pay3 (F := Ideal) v196 v198 j = qS (v198 j) (f (j 0)) := by
  unfold_payloads
  pointwise [hf]
  simp only [dite_eq_ite, ite_self]
  rfl

/-- The lane maxima's step over one chunk's values. -/
abbrev stepP (G : FVec Ideal S512x256 .f32) (v : FVec Ideal S512x128 .f32) : FVec Ideal S512x128 .f32 :=
  shapeCast S512x128 (maximumf (maximumf (extractStridedSlice S512x128 ![0, 0] (absf G) slices_S512x256_o0_0_S512x128)
    (extractStridedSlice S512x128 ![0, 128] (absf G) slices_S512x256_o0_128_S512x128)) v) shapeCasts_S512x128_S512x128

/-- The lane maxima of the first chunk. -/
abbrev firstP (G : FVec Ideal S512x256 .f32) : FVec Ideal S512x128 .f32 :=
  shapeCast S512x128 (maximumf (extractStridedSlice S512x128 ![0, 0] (absf G) slices_S512x256_o0_0_S512x128)
    (extractStridedSlice S512x128 ![0, 128] (absf G) slices_S512x256_o0_128_S512x128)) shapeCasts_S512x128_S512x128

/-- The magnitude the kernel takes. -/
abbrev absE (a : EReal) : EReal := FloatOps.absf (F := Ideal) (φ := .f32) a

/-- `A` holds, per row and lane, the largest magnitude of `g` over the first `256·n` columns of that lane. -/
def IsMax (g : S512x5120.Idx → EReal) (n : ℕ) (A : S512x128.Idx → EReal) : Prop :=
  ∀ (r : Fin 512) (l : Fin 128) (u : EReal), A (ix2 r l) ≤ u ↔
    ∀ c : Fin 5120, c.val % 128 = l.val → c.val < 256 * n → absE (g (ix2 r c)) ≤ u

/-- A chunk's values are a column range of `g`. -/
def IsChunk (g : S512x5120.Idx → EReal) (n : ℕ) (G : S512x256.Idx → EReal) : Prop :=
  ∀ (r : Fin 512) (l : Fin 256) (c : Fin 5120), c.val = 256 * n + l.val → G (ix2 r l) = g (ix2 r c)

/-- The first chunk's lane maxima. -/
theorem isMax_first {g : S512x5120.Idx → EReal} {G : FVec Ideal S512x256 .f32} (hG : IsChunk g 0 G) : IsMax g 1 (firstP G) := by
  intro r l u
  unfold firstP
  pointwise
  have h0 := hG r ⟨l.val, by omega⟩ ⟨l.val, by omega⟩ (by simp)
  have h1 := hG r ⟨128 + l.val, by omega⟩ ⟨128 + l.val, by omega⟩ (by simp)
  rw [h0, h1, max_le_iff]
  constructor
  · rintro ⟨a, b⟩ c hc hl
    obtain h | h : c.val = l.val ∨ c.val = 128 + l.val := by omega
    · rw [show c = ⟨l.val, by omega⟩ from Fin.ext h]; exact a
    · rw [show c = ⟨128 + l.val, by omega⟩ from Fin.ext h]; exact b
  · intro h
    exact ⟨h ⟨l.val, by omega⟩ (by show l.val % 128 = _; omega) (by show l.val < _; omega),
      h ⟨128 + l.val, by omega⟩ (by show (128 + l.val) % 128 = _; omega) (by show 128 + l.val < _; omega)⟩

/-- One more chunk's lane maxima. -/
theorem isMax_step {g : S512x5120.Idx → EReal} {G : FVec Ideal S512x256 .f32} {v : FVec Ideal S512x128 .f32} (n : ℕ) (hn : n < 20)
    (hG : IsChunk g n G) (hv : IsMax g n v) : IsMax g (n + 1) (stepP G v) := by
  intro r l u
  unfold stepP
  pointwise
  have h0 := hG r ⟨l.val, by omega⟩ ⟨256 * n + l.val, by omega⟩ (by simp)
  have h1 := hG r ⟨128 + l.val, by omega⟩ ⟨256 * n + (128 + l.val), by omega⟩ (by simp)
  rw [h0, h1, max_le_iff, max_le_iff, hv r l u]
  constructor
  · rintro ⟨⟨a, b⟩, h⟩ c hc hl
    by_cases hlt : c.val < 256 * n
    · exact h c hc hlt
    obtain h | h : c.val = 256 * n + l.val ∨ c.val = 256 * n + (128 + l.val) := by omega
    · rw [show c = ⟨256 * n + l.val, by omega⟩ from Fin.ext h]; exact a
    · rw [show c = ⟨256 * n + (128 + l.val), by omega⟩ from Fin.ext h]; exact b
  · intro h
    exact ⟨⟨h ⟨256 * n + l.val, by omega⟩ (by simp; omega) (by simp; omega), h ⟨256 * n + (128 + l.val), by omega⟩ (by simp; omega) (by simp; omega)⟩,
      fun c hc hl => h c hc (by omega)⟩

/-- The largest magnitude of a row of `g`. -/
def mxT (g : S512x5120.Idx → EReal) (r : Fin 512) : EReal := Finset.univ.sup fun c : Fin 5120 => absE (g (ix2 r c))

/-- The maximum over the lanes after all chunks is the row's. -/
theorem isMax_lanes {g : S512x5120.Idx → EReal} {A : S512x128.Idx → EReal} (h : IsMax g 20 A) (r : Fin 512) :
    Finset.fold max (Ideal.ofBits .f32 0xFF800000#32) (fun l : Fin 128 => A (ix2 r l)) Finset.univ = mxT g r := by
  have hb : Ideal.ofBits .f32 0xFF800000#32 = (⊥ : EReal) := by simp [Ideal.ofBits, Ideal.ieee]
  rw [hb]
  refine eq_of_forall_ge_iff fun u => ?_
  rw [Finset.fold_max_le, mxT, Finset.sup_le_iff]
  simp only [bot_le, true_and, Finset.mem_univ, true_implies]
  constructor
  · intro hh c
    exact (h r ⟨c.val % 128, by omega⟩ u).mp (hh _) c rfl (by omega)
  · intro hh l
    exact (h r l u).mpr fun c _ _ => hh c

/-- The scaled row maximum from the row maximum. -/
def tS (m : EReal) : EReal := m * rt * Ideal.ofBits .f32 0x3B124925#32

/-- One step of the search: keep the field raised by `b` where its power is at most `t`. -/
def stepW (t : EReal) (k b : BitVec 32) : BitVec 32 :=
  if Ideal.ofBits .f32 ((k + b) <<< 23) ≤ t then k + b else k

/-- The searched exponent field. -/
def srchW (t : EReal) : BitVec 32 := [128#32, 64#32, 32#32, 16#32, 8#32, 4#32, 2#32, 1#32].foldl (stepW t) 0#32

/-- The exponent word. -/
def expW (t : EReal) : BitVec 32 := if t = 0 then 0#32 else IntOp.subi (IntOp.minsi (srchW t) 252#32) 126#32

/-- The row scale and its inverse (times the square root of one half). -/
def scS (t : EReal) : EReal := Ideal.ofBits .f32 ((expW t + 127#32) <<< 23)
def invS (t : EReal) : EReal := Ideal.ofBits .f32 ((127#32 - expW t) <<< 23) * rt

/-- A row block's scales, composed. -/
abbrev scP (v : Vec Ideal S128x128 .f32) : FVec Ideal S1x1x128 .f32 :=
  k0_pay122 (k0_pay117 v) (k0_pay120 (k0_pay117 v) (k0_pay118 v) (k0_pay119 v) 23#32) 252#32

/-- A row block's inverse scales, composed. -/
abbrev invP (v : Vec Ideal S128x128 .f32) : FVec Ideal S128x128 .f32 :=
  k0_pay123 (k0_pay117 v) (k0_pay120 (k0_pay117 v) (k0_pay118 v) (k0_pay119 v) 23#32) 252#32

theorem pay117_apply (v : Vec Ideal S128x128 .f32) (j : S1x128.Idx) :
    k0_pay117 (F := Ideal) v j = tS (Finset.fold max (Ideal.ofBits .f32 0xFF800000#32) (fun l : Fin 128 => v (ix2 (j 1) l)) Finset.univ) := by
  unfold k0_pay117
  pointwise
  unfold tS
  rfl

theorem shl23 (k : BitVec 32) : IntOp.shli ArithUnit.vector k 23#32 = k <<< 23 := by
  simp [IntOp.shli]

/-- One step of the kernel's search over a row block. -/
def stepV (T : FVec Ideal S1x128 .f32) (K : IVec S1x128 32) (b : BitVec 32) : IVec S1x128 32 :=
  select (cmpf .oge T (bitcastToFloat .f32 (shli (addi K (broadcast S1x128 b)) (broadcast S1x128 23#32)))) (addi K (broadcast S1x128 b)) K

/-- One step of the kernel's search, at an index. -/
theorem stepV_apply (T : FVec Ideal S1x128 .f32) (K : IVec S1x128 32) (b : BitVec 32) (j : S1x128.Idx) :
    stepV T K b j = stepW (T j) (K j) b := by
  unfold stepV
  pointwise [shl23]
  rfl

/-- The search's payload is its steps. -/
theorem pay120_eq (v : Vec Ideal S128x128 .f32) (T : FVec Ideal S1x128 .f32) (hT : k0_pay117 (F := Ideal) v = T) :
    k0_pay120 (F := Ideal) (k0_pay117 v) (k0_pay118 v) (k0_pay119 v) 23#32
      = stepV T (stepV T (stepV T (stepV T (stepV T (stepV T (stepV T (stepV T (broadcast S1x128 0#32) 128#32) 64#32) 32#32) 16#32) 8#32) 4#32) 2#32) 1#32 := by
  unfold k0_pay120 k0_pay119 k0_pay118
  rw [hT]
  rfl

/-- The searched field of a row. -/
theorem pay120_apply (v : Vec Ideal S128x128 .f32) (j : S1x128.Idx) :
    k0_pay120 (F := Ideal) (k0_pay117 v) (k0_pay118 v) (k0_pay119 v) 23#32 j = srchW (k0_pay117 (F := Ideal) v j) := by
  rw [pay120_eq v _ rfl]
  rw [stepV_apply, stepV_apply, stepV_apply, stepV_apply, stepV_apply, stepV_apply, stepV_apply, stepV_apply]
  rfl

/-- A row block's scales at an index. -/
theorem scP_apply (v : Vec Ideal S128x128 .f32) (j : S1x1x128.Idx) :
    scP v j = scS (tS (Finset.fold max (Ideal.ofBits .f32 0xFF800000#32) (fun l : Fin 128 => v (ix2 (j 2) l)) Finset.univ)) := by
  unfold scP k0_pay122 k0_pay121
  pointwise [shl23, pay120_apply, pay117_apply]
  rfl

/-- A row block's inverse scales at an index. -/
theorem invP_apply (v : Vec Ideal S128x128 .f32) (j : S128x128.Idx) :
    invP v j = invS (tS (Finset.fold max (Ideal.ofBits .f32 0xFF800000#32) (fun l : Fin 128 => v (ix2 (j 0) l)) Finset.univ)) := by
  unfold invP k0_pay123 k0_pay121
  pointwise [shl23, pay120_apply, pay117_apply]
  unfold invS expW
  rfl

/-- A row block's broadcast scales at an index. -/
theorem pay4_apply (v : Vec Ideal S1x1x128 .f32) (j : S128x128.Idx) : k0_pay4 (F := Ideal) v j = v (ix3 0 0 (j 0)) := by
  unfold k0_pay4
  pointwise

end Cert.KernelIdeal.Hand

end
-- ==== Proof.KI.Runs.lean ====
/-
  The idealized kernel: the conditions of its body, and the staging and scratch buffers of each grid point.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 48 — decided over the grid. -/
theorem hcond0_0 : ∀ t : Fin cfg0.N, cond0_0 (grid0.coords t) ↔ t.val < 48 :=
  (by decide +kernel : ∀ t : Fin grid0.N, cond0_0 (grid0.coords t) ↔ t.val < 48)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_1, k0_cond2, e0]
    word_cmp
   : ∀ t : Fin grid0.N, cond0_1 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x5120 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/-
  The idealized kernel's body at a point before the last: it runs, and its stores are collected buffer by buffer.
-/
module

public import proofs.«01_k».proof.Proof.KI.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1812000 in
/-- The body at a point before the last (`scf.if` 0 taken, `scf.if` 1 not taken), with what its stores leave in each
    buffer as lists of pieces (last first): started with the gelu scratch at `xs0` and the inverse scales at `xs3`, it
    leaves the codes `L5`, the scales `L6`, and the four scratch buffers at `LS0` … `LS3`. -/
noncomputable def kernelRun0_A (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
    (x0 : Vec F S512x1280 .fp8e4m3) (x1 : Vec F S1x1x512 .f32) (x2 : Vec F S5120x1280 .fp8e4m3) (x3 : Vec F S1x5120 .f32) (x4 : Vec F S1x5120 .bf16) (xs0 : Vec F S512x5120 .f32) (xs3 : Vec F S512x128 .f32) :
    Σ' (L5 : List (View.Piece (Elt F) S512x5120 .fp8e4m3)), Σ' (L6 : List (View.Piece (Elt F) S1x1x512 .f32)), Σ' (LS0 : List (View.Piece (Elt F) S512x5120 .f32)), Σ' (LS1 : List (View.Piece (Elt F) S512x128 .f32)), Σ' (LS2 : List (View.Piece (Elt F) S512x128 .f32)), { LS3 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_fp8_linear_gelu_fp8 i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_fp8_linear_gelu_fp8_eq_skeleton]; unfold cc0_fp8_linear_gelu_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg11.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [HS0]
    · iexists _; iexact HS0
    isplitl [HS1]
    · iexists _; iexact HS1
    isplitl [HS2]
    · iexists _; iexact HS2
    iexists _; iexact HS3

end Cert.KernelIdeal.Hand

end
-- ==== Proof.KI.RunB.lean ====
/-
  The idealized kernel's body at the last point: it only writes the codes of the last tile.
-/
module

public import proofs.«01_k».proof.Proof.KI.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1000000 in
/-- The body at the last point (`scf.if` 1 taken only): it leaves the codes `L5`, computed from the gelu scratch `xs0` and the
    inverse scales `xs3`, and touches nothing else. -/
noncomputable def kernelRun0_B (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : ¬cond0_0 i) (hc1 : cond0_1 i)
    (x0 : Vec F S512x1280 .fp8e4m3) (x1 : Vec F S1x1x512 .f32) (x2 : Vec F S5120x1280 .fp8e4m3) (x3 : Vec F S1x5120 .f32) (x4 : Vec F S1x5120 .bf16) (xs0 : Vec F S512x5120 .f32) (xs3 : Vec F S512x128 .f32) (y6 : Vec F S1x1x512 .f32) :
    { L5 : List (View.Piece (Elt F) S512x5120 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare y6 ∗ owns (c : Thread nD τ) arg8 fullShare xs0 ∗ (∃ d, owns (c : Thread nD τ) arg9 fullShare d) ∗ (∃ d, owns (c : Thread nD τ) arg10 fullShare d) ∗ owns (c : Thread nD τ) arg11 fullShare xs3) -∗ K ⟨⟩))
          ⊢ wp frame (wpE (defs₀ (F := F)) Variants.none c none) E (cc0_fp8_linear_gelu_fp8 i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_fp8_linear_gelu_fp8_eq_skeleton]; unfold cc0_fp8_linear_gelu_fp8_skel
    simp only [k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg11.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; isplitr; · ipureintro; exact harg7.read_unread _
      iexact H6
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; isplitr; · ipureintro; exact harg11.read_unread _
    iexact HS3

end Cert.KernelIdeal.Hand

end
-- ==== Proof.KI.Vals.lean ====
/-
  Loads of a block held whole, and the row factors that the body broadcasts along the lanes and reads back.
-/
module

public import proofs.«01_k».proof.Proof.KI.Pay
public import proofs.«01_k».proof.Proof.KI.RunA
public import proofs.«01_k».proof.Proof.KI.RunB
public import Idealize.ShloMosaic.Lib.Pointwise
public import Idealize.ShloMosaic.Lib.ValueLayout
public import Idealize.ShloMosaic.Lib.WholeRead

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## Loads of a block held whole -/

/-- A load of a rectangle of a block, at an index of two coordinates. -/
theorem read2 {A B a b : ℕ} {e : EltTy} {m : Memref sig .tc .vmem ⟨2, ![A, B]⟩ e} (h : m.IsWhole) (X : Vec Ideal ⟨2, ![A, B]⟩ e) (p q : ℕ)
    (hin : ∀ d, (![p, q] : Fin 2 → ℕ) d + (![a, b] : Fin 2 → ℕ) d ≤ (⟨2, ![A, B]⟩ : Shape).size d)
    (r : Fin a) (l : Fin b) (r' : Fin A) (l' : Fin B) (hr : r'.val = p + r.val) (hl : l'.val = q + l.val) :
    View.readAt (Elt Ideal) m.view (Rect.unit (s := ⟨2, ![A, B]⟩) ![p, q] ![a, b] hin).toLoadRect (h.unread X) (ix2 r l) = X (ix2 r' l') := by
  refine (h.readAt_unread X _ _).trans (congrArg X (funext fun d => Fin.ext ?_))
  match d with
  | ⟨0, _⟩ => show p + 1 * r.val = r'.val; omega
  | ⟨1, _⟩ => show q + 1 * l.val = l'.val; omega

/-- A load of a rectangle of the row-factor block. -/
theorem read3 {B b : ℕ} {e : EltTy} {m : Memref sig .tc .vmem ⟨3, ![1, 1, B]⟩ e} (h : m.IsWhole) (X : Vec Ideal ⟨3, ![1, 1, B]⟩ e) (q : ℕ)
    (hin : ∀ d, (![0, 0, q] : Fin 3 → ℕ) d + (![1, 1, b] : Fin 3 → ℕ) d ≤ (⟨3, ![1, 1, B]⟩ : Shape).size d)
    (l : Fin b) (l' : Fin B) (hl : l'.val = q + l.val) :
    View.readAt (Elt Ideal) m.view (Rect.unit (s := ⟨3, ![1, 1, B]⟩) ![0, 0, q] ![1, 1, b] hin).toLoadRect (h.unread X) (ix3 0 0 l) = X (ix3 0 0 l') := by
  refine (h.readAt_unread X _ _).trans (congrArg X (funext fun d => Fin.ext ?_))
  match d with
  | ⟨0, _⟩ => rfl
  | ⟨1, _⟩ => rfl
  | ⟨2, _⟩ => show q + 1 * l.val = l'.val; omega

section A

variable (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
  (x0 : Vec Ideal S512x1280 .fp8e4m3) (x1 : Vec Ideal S1x1x512 .f32) (x2 : Vec Ideal S5120x1280 .fp8e4m3) (x3 : Vec Ideal S1x5120 .f32) (x4 : Vec Ideal S1x5120 .bf16) (xs0 : Vec Ideal S512x5120 .f32) (xs3 : Vec Ideal S512x128 .f32)

/-! ## The row factors -/

include harg2 in
/-- One row block of the broadcast row factors. -/
theorem xs_piece (o : ℕ) (hin : ∀ d, (![0, 0, o] : Fin 3 → ℕ) d + S1x1x128.size d ≤ S1x1x512.size d)
    (hout : ∀ d, (![o, 0] : Fin 2 → ℕ) d + S128x128.size d ≤ S512x128.size d) (ho : o + 128 ≤ 512) (x : S128x128.Idx) :
    k0_pay4 (F := Ideal) (View.readAt (Elt Ideal) arg2.view (Rect.unit (s := S1x1x512) ![0, 0, o] S1x1x128.size hin).toLoadRect (harg2.unread x1)) x
      = (fun j : S512x128.Idx => x1 (ix3 0 0 (j 0))) ((Rect.unit (s := S512x128) ![o, 0] S128x128.size hout).emb x) := by
  rw [pay4_apply]
  exact read3 harg2 x1 o hin (x 0) _ (by show o + 1 * (x 0).val = o + (x 0).val; omega)

/-- The broadcast row factors read back: row `r` holds the row's factor in every lane. -/
theorem v61_apply (r : Fin 512) (l : Fin 128) : kernelRun0_A.sl.v61 (F := Ideal) c arg2 harg2 arg9 x1 (ix2 r l) = x1 (ix3 0 0 r) := by
  unfold kernelRun0_A.sl.v61
  rw [View.readCov_eq_canon']
  have hy : (Rect.unit (s := S512x128) ![0, 0] S512x128.size Gen.inb_S512x128_S512x128_0_0).toLoadRect.idx (ix2 r l) = ix2 r l :=
    funext fun d => Fin.ext (by match d with | ⟨0, _⟩ => show 0 + 1 * r.val = r.val; omega | ⟨1, _⟩ => show 0 + 1 * l.val = l.val; omega)
  show View.canon _ _ = _
  rw [hy]
  unfold kernelRun0_A.sl.HS1_4
  refine View.canon_apply_of_pieces (fun j : S512x128.Idx => x1 (ix3 0 0 (j 0))) _ ?_ (ix2 r l) (View.cover_of_tiled _ ![128, 128] rfl _)
  refine List.forall_mem_cons.2 ⟨?_, List.forall_mem_cons.2 ⟨?_, List.forall_mem_cons.2 ⟨?_, List.forall_mem_cons.2 ⟨?_, fun _ h => absurd h List.not_mem_nil⟩⟩⟩⟩
  · exact xs_piece arg2 harg2 x1 384 Gen.inb_S1x1x512_S1x1x128_0_0_384 Gen.inb_S512x128_S128x128_384_0 (by omega)
  · exact xs_piece arg2 harg2 x1 256 Gen.inb_S1x1x512_S1x1x128_0_0_256 Gen.inb_S512x128_S128x128_256_0 (by omega)
  · exact xs_piece arg2 harg2 x1 128 Gen.inb_S1x1x512_S1x1x128_0_0_128 Gen.inb_S512x128_S128x128_128_0 (by omega)
  · exact xs_piece arg2 harg2 x1 0 Gen.inb_S1x1x512_S1x1x128_0_0_0 Gen.inb_S512x128_S128x128_0_0 (by omega)

/-! ## The GELU chunks -/

/-- One chunk's GELU values. -/
abbrev chP (o : ℕ) (h3 : ∀ d, (![o, 0] : Fin 2 → ℕ) d + S256x1280.size d ≤ S5120x1280.size d) (h4 : ∀ d, (![0, o] : Fin 2 → ℕ) d + S1x256.size d ≤ S1x5120.size d) : FVec Ideal S512x256 .f32 :=
  k0_pay10 (F := Ideal) (View.readAt (Elt Ideal) arg1.view (Rect.unit ![0, 0] S512x1280.size Gen.inb_S512x1280_S512x1280_0_0).toLoadRect (harg1.unread x0))
    (View.readAt (Elt Ideal) arg3.view (Rect.unit (s := S5120x1280) ![o, 0] S256x1280.size h3).toLoadRect (harg3.unread x2))
    (View.readAt (Elt Ideal) arg4.view (Rect.unit (s := S1x5120) ![0, o] S1x256.size h4).toLoadRect (harg4.unread x3))
    (View.readAt (Elt Ideal) arg5.view (Rect.unit (s := S1x5120) ![0, o] S1x256.size h4).toLoadRect (harg5.unread x4))
    (kernelRun0_A.sl.v61 (F := Ideal) c arg2 harg2 arg9 x1)

/-- A chunk's values are its column range of the GELU tile. -/
theorem chP_chunk (n o : ℕ) (ho : o = 256 * n) (h3 : ∀ d, (![o, 0] : Fin 2 → ℕ) d + S256x1280.size d ≤ S5120x1280.size d)
    (h4 : ∀ d, (![0, o] : Fin 2 → ℕ) d + S1x256.size d ≤ S1x5120.size d) :
    IsChunk (gT x0 x1 x2 x3 x4) n (chP c arg1 harg1 arg2 harg2 arg3 harg3 arg4 harg4 arg5 harg5 arg9 x0 x1 x2 x3 x4 o h3 h4) := by
  intro r l cc hcc
  unfold chP
  rw [pay10_apply _ _ _ _ _ (fun r => x1 (ix3 0 0 r)) (v61_apply c arg2 harg2 arg9 x1)]
  unfold gT
  have e3 : View.readAt (Elt Ideal) arg4.view (Rect.unit (s := S1x5120) ![0, o] S1x256.size h4).toLoadRect (harg4.unread x3) (ix2 0 l) = x3 (ix2 0 cc) :=
    read2 harg4 x3 0 o h4 0 l 0 cc rfl (by omega)
  have e4 : View.readAt (Elt Ideal) arg5.view (Rect.unit (s := S1x5120) ![0, o] S1x256.size h4).toLoadRect (harg5.unread x4) (ix2 0 l) = x4 (ix2 0 cc) :=
    read2 harg5 x4 0 o h4 0 l 0 cc rfl (by omega)
  have e1 : ∀ k : Fin 1280, View.readAt (Elt Ideal) arg1.view (Rect.unit (s := S512x1280) ![0, 0] S512x1280.size Gen.inb_S512x1280_S512x1280_0_0).toLoadRect (harg1.unread x0) (ix2 r k) = x0 (ix2 r k) := fun k =>
    read2 harg1 x0 0 0 Gen.inb_S512x1280_S512x1280_0_0 r k r k (by omega) (by omega)
  have e2 : ∀ k : Fin 1280, View.readAt (Elt Ideal) arg3.view (Rect.unit (s := S5120x1280) ![o, 0] S256x1280.size h3).toLoadRect (harg3.unread x2) (ix2 l k) = x2 (ix2 cc k) := fun k =>
    read2 harg3 x2 o 0 h3 l k cc k (by omega) (by omega)
  exact congrArg gS (congr (congr (congrArg₂ zS (Finset.sum_congr rfl fun k _ => congrArg₂ (· * ·) (e1 k) (e2 k)) rfl) e3) e4)

/-- So a stored chunk is the GELU tile at the stored place. -/
theorem g_piece (n o : ℕ) (ho : o = 256 * n) (h3 : ∀ d, (![o, 0] : Fin 2 → ℕ) d + S256x1280.size d ≤ S5120x1280.size d)
    (h4 : ∀ d, (![0, o] : Fin 2 → ℕ) d + S1x256.size d ≤ S1x5120.size d) (hout : ∀ d, (![0, o] : Fin 2 → ℕ) d + S512x256.size d ≤ S512x5120.size d) (x : S512x256.Idx) :
    shapeCast S512x256 (chP c arg1 harg1 arg2 harg2 arg3 harg3 arg4 harg4 arg5 harg5 arg9 x0 x1 x2 x3 x4 o h3 h4) shapeCasts_S512x256_S512x256 x
      = gT x0 x1 x2 x3 x4 ((Rect.unit (s := S512x5120) ![0, o] S512x256.size hout).emb x) := by
  have hk := chP_chunk c arg1 harg1 arg2 harg2 arg3 harg3 arg4 harg4 arg5 harg5 arg9 x0 x1 x2 x3 x4 n o ho h3 h4 (x 0) (x 1)
    ⟨o + 1 * (x 1).val, ((Rect.unit (s := S512x5120) ![0, o] S512x256.size hout).emb x 1).isLt⟩ (by show o + 1 * (x 1).val = _; omega)
  rw [shapeCast_self, eq_ix2 x]
  refine hk.trans (congrArg (gT x0 x1 x2 x3 x4) (funext fun d => Fin.ext ?_))
  match d with
  | ⟨0, _⟩ => show (x 0).val = 0 + 1 * (x 0).val; omega
  | ⟨1, _⟩ => rfl

end A

end Cert.KernelIdeal.Hand

end
-- ==== Proof.KI.ValsG.lean ====
/-
  What a point before the last leaves in the GELU scratch: the GELU tile of its blocks.
-/
module

public import proofs.«01_k».proof.Proof.KI.Vals
public import Idealize.ShloMosaic.Lib.Pointwise
public import Idealize.ShloMosaic.Lib.ValueLayout
public import Idealize.ShloMosaic.Lib.WholeRead

@[expose] public section

set_option maxRecDepth 16384

noncomputable section

namespace Cert.KernelIdeal.Hand

open Idealize.ShloMosaic Idealize.ShloMosaic.TcCoe Idealize.SL.Sem
open Cert.KernelIdeal Cert.KernelIdeal.Gen

section A

variable (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
  (x0 : Vec Ideal S512x1280 .fp8e4m3) (x1 : Vec Ideal S1x1x512 .f32) (x2 : Vec Ideal S5120x1280 .fp8e4m3) (x3 : Vec Ideal S1x5120 .f32) (x4 : Vec Ideal S1x5120 .bf16) (xs0 : Vec Ideal S512x5120 .f32) (xs3 : Vec Ideal S512x128 .f32)

/-- What case A leaves in the GELU scratch, piece by piece. -/
theorem gA_pieces : ∀ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.1, ∀ x : p.1.shape.Idx, p.2 x = gT x0 x1 x2 x3 x4 (p.1.emb x) := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩
  · exact g_piece c arg1 harg1 arg2 harg2 arg3 harg3 arg4 harg4 arg5 harg5 arg9 x0 x1 x2 x3 x4 19 4864 rfl Gen.inb_S5120x1280_S256x1280_4864_0 Gen.inb_S1x5120_S1x256_0_4864 Gen.inb_S512x5120_S512x256_0_4864
  · exact g_piece c arg1 harg1 arg2 harg2 arg3 harg3 arg4 harg4 arg5 harg5 arg9 x0 x1 x2 x3 x4 18 4608 rfl Gen.inb_S5120x1280_S256x1280_4608_0 Gen.inb_S1x5120_S1x256_0_4608 Gen.inb_S512x5120_S512x256_0_4608
  · exact g_piece c arg1 harg1 arg2 harg2 arg3 harg3 arg4 harg4 arg5 harg5 arg9 x0 x1 x2 x3 x4 17 4352 rfl Gen.inb_S5120x1280_S256x1280_4352_0 Gen.inb_S1x5120_S1x256_0_4352 Gen.inb_S512x5120_S512x256_0_4352
  · exact g_piece c arg1 harg1 arg2 harg2 arg3 harg3 arg4 harg4 arg5 harg5 arg9 x0 x1 x2 x3 x4 16 4096 rfl Gen.inb_S5120x1280_S256x1280_4096_0 Gen.inb_S1x5120_S1x256_0_4096 Gen.inb_S512x5120_S512x256_0_4096
  · exact g_piece c arg1 harg1 arg2 harg2 arg3 harg3 arg4 harg4 arg5 harg5 arg9 x0 x1 x2 x3 x4 15 3840 rfl Gen.inb_S5120x1280_S256x1280_3840_0 Gen.inb_S1x5120_S1x256_0_3840 Gen.inb_S512x5120_S512x256_0_3840
  · exact g_piece c arg1 harg1 arg2 harg2 arg3 harg3 arg4 harg4 arg5 harg5 arg9 x0 x1 x2 x3 x4 14 3584 rfl Gen.inb_S5120x1280_S256x1280_3584_0 Gen.inb_S1x5120_S1x256_0_3584 Gen.inb_S512x5120_S512x256_0_3584
  · exact g_piece c arg1 harg1 arg2 harg2 arg3 harg3 arg4 harg4 arg5 harg5 arg9 x0 x1 x2 x3 x4 13 3328 rfl Gen.inb_S5120x1280_S256x1280_3328_0 Gen.inb_S1x5120_S1x256_0_3328 Gen.inb_S512x5120_S512x256_0_3328
  · exact g_piece c arg1 harg1 arg2 harg2 arg3 harg3 arg4 harg4 arg5 harg5 arg9 x0 x1 x2 x3 x4 12 3072 rfl Gen.inb_S5120x1280_S256x1280_3072_0 Gen.inb_S1x5120_S1x256_0_3072 Gen.inb_S512x5120_S512x256_0_3072
  · exact g_piece c arg1 harg1 arg2 harg2 arg3 harg3 arg4 harg4 arg5 harg5 arg9 x0 x1 x2 x3 x4 11 2816 rfl Gen.inb_S5120x1280_S256x1280_2816_0 Gen.inb_S1x5120_S1x256_0_2816 Gen.inb_S512x5120_S512x256_0_2816
  · exact g_piece c arg1 harg1 arg2 harg2 arg3 harg3 arg4 harg4 arg5 harg5 arg9 x0 x1 x2 x3 x4 10 2560 rfl Gen.inb_S5120x1280_S256x1280_2560_0 Gen.inb_S1x5120_S1x256_0_2560 Gen.inb_S512x5120_S512x256_0_2560
  · exact g_piece c arg1 harg1 arg2 harg2 arg3 harg3 arg4 harg4 arg5 harg5 arg9 x0 x1 x2 x3 x4 9 2304 rfl Gen.inb_S5120x1280_S256x1280_2304_0 Gen.inb_S1x5120_S1x256_0_2304 Gen.inb_S512x5120_S512x256_0_2304
  · exact g_piece c arg1 harg1 arg2 harg2 arg3 harg3 arg4 harg4 arg5 harg5 arg9 x0 x1 x2 x3 x4 8 2048 rfl Gen.inb_S5120x1280_S256x1280_2048_0 Gen.inb_S1x5120_S1x256_0_2048 Gen.inb_S512x5120_S512x256_0_2048
  · exact g_piece c arg1 harg1 arg2 harg2 arg3 harg3 arg4 harg4 arg5 harg5 arg9 x0 x1 x2 x3 x4 7 1792 rfl Gen.inb_S5120x1280_S256x1280_1792_0 Gen.inb_S1x5120_S1x256_0_1792 Gen.inb_S512x5120_S512x256_0_1792
  · exact g_piece c arg1 harg1 arg2 harg2 arg3 harg3 arg4 harg4 arg5 harg5 arg9 x0 x1 x2 x3 x4 6 1536 rfl Gen.inb_S5120x1280_S256x1280_1536_0 Gen.inb_S1x5120_S1x256_0_1536 Gen.inb_S512x5120_S512x256_0_1536
  · exact g_piece c arg1 harg1 arg2 harg2 arg3 harg3 arg4 harg4 arg5 harg5 arg9 x0 x1 x2 x3 x4 5 1280 rfl Gen.inb_S5120x1280_S256x1280_1280_0 Gen.inb_S1x5120_S1x256_0_1280 Gen.inb_S512x5120_S512x256_0_1280
  · exact g_piece c arg1 harg1 arg2 harg2 arg3 harg3 arg4 harg4 arg5 harg5 arg9 x0 x1 x2 x3 x4 4 1024 rfl Gen.inb_S5120x1280_S256x1280_1024_0 Gen.inb_S1x5120_S1x256_0_1024 Gen.inb_S512x5120_S512x256_0_1024
  · exact g_piece c arg1 harg1 arg2 harg2 arg3 harg3 arg4 harg4 arg5 harg5 arg9 x0 x1 x2 x3 x4 3 768 rfl Gen.inb_S5120x1280_S256x1280_768_0 Gen.inb_S1x5120_S1x256_0_768 Gen.inb_S512x5120_S512x256_0_768
  · exact g_piece c arg1 harg1 arg2 harg2 arg3 harg3 arg4 harg4 arg5 harg5 arg9 x0 x1 x2 x3 x4 2 512 rfl Gen.inb_S5120x1280_S256x1280_512_0 Gen.inb_S1x5120_S1x256_0_512 Gen.inb_S512x5120_S512x256_0_512
  · exact g_piece c arg1 harg1 arg2 harg2 arg3 harg3 arg4 harg4 arg5 harg5 arg9 x0 x1 x2 x3 x4 1 256 rfl Gen.inb_S5120x1280_S256x1280_256_0 Gen.inb_S1x5120_S1x256_0_256 Gen.inb_S512x5120_S512x256_0_256
  · exact g_piece c arg1 harg1 arg2 harg2 arg3 harg3 arg4 harg4 arg5 harg5 arg9 x0 x1 x2 x3 x4 0 0 rfl Gen.inb_S5120x1280_S256x1280_0_0 Gen.inb_S1x5120_S1x256_0_0 Gen.inb_S512x5120_S512x256_0_0

/-- Its pieces cover the GELU scratch. -/
theorem gA_cover (y : S512x5120.Idx) : ∃ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.1, y ∈ p.1.set :=
  View.cover_of_tiled _ ![512, 256] (by sl_kernel_rfl) y

/-- After case A the GELU scratch reads the GELU tile. -/
theorem gA_read (f : arg8.view.ty.Contents (Elt Ideal)) : arg8.view.read (Elt Ideal) (arg8.view.writes (Elt Ideal) f (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.1) = gT x0 x1 x2 x3 x4 :=
  funext fun y => View.read_writes_apply_of_pieces arg8.view f (gT x0 x1 x2 x3 x4) _ (gA_pieces c i arg1 harg1 arg2 harg2 arg3 harg3 arg4 harg4 arg5 harg5 arg6 harg6 arg7 harg7 arg8 harg8 arg9 harg9 arg10 harg10 arg11 harg11 hc0 hc1 x0 x1 x2 x3 x4 xs0 xs3) y
    (gA_cover c i arg1 harg1 arg2 harg2 arg3 harg3 arg4 harg4 arg5 harg5 arg6 harg6 arg7 harg7 arg8 harg8 arg9 harg9 arg10 harg10 arg11 harg11 hc0 hc1 x0 x1 x2 x3 x4 xs0 xs3 y)

end A

end Cert.KernelIdeal.Hand

end
-- ==== Proof.KI.ValsM.lean ====
/-
  The row maxima: the lane maxima gathered chunk by chunk, and the scales and inverse scales made of them.
-/
module

public import proofs.«01_k».proof.Proof.KI.Vals
public import Idealize.ShloMosaic.Lib.Pointwise
public import Idealize.ShloMosaic.Lib.ValueLayout
public import Idealize.ShloMosaic.Lib.WholeRead
public import Idealize.ShloMosaic.Lib.Pipeline.ValueKit.Basic

@[expose] public section

set_option maxRecDepth 16384

noncomputable section

namespace Cert.KernelIdeal.Hand

open Idealize.ShloMosaic Idealize.ShloMosaic.TcCoe Idealize.SL.Sem
open Cert.KernelIdeal Cert.KernelIdeal.Gen

/-- The scale of each row of a GELU tile. -/
def scT (G : S512x5120.Idx → EReal) : Vec Ideal S1x1x512 .f32 := fun y => scS (tS (mxT G (y 2)))

/-- The inverse scale of each row of a GELU tile, in every lane. -/
def invT (G : S512x5120.Idx → EReal) : Vec Ideal S512x128 .f32 := fun y => invS (tS (mxT G (y 0)))

section A

variable (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
  (x0 : Vec Ideal S512x1280 .fp8e4m3) (x1 : Vec Ideal S1x1x512 .f32) (x2 : Vec Ideal S5120x1280 .fp8e4m3) (x3 : Vec Ideal S1x5120 .f32) (x4 : Vec Ideal S1x5120 .bf16) (xs0 : Vec Ideal S512x5120 .f32) (xs3 : Vec Ideal S512x128 .f32)

/-- The lane maxima after 1 chunk. -/
theorem max1 : IsMax (gT x0 x1 x2 x3 x4) 1 (kernelRun0_A.sl.v123 (F := Ideal) c arg1 harg1 arg2 harg2 arg3 harg3 arg4 harg4 arg5 harg5 arg9 arg10 x0 x1 x2 x3 x4) := by
  unfold kernelRun0_A.sl.v123 kernelRun0_A.sl.HS2_1
  rw [View.readCov_cons_toLoadRect]
  exact isMax_first (chP_chunk c arg1 harg1 arg2 harg2 arg3 harg3 arg4 harg4 arg5 harg5 arg9 x0 x1 x2 x3 x4 0 0 rfl Gen.inb_S5120x1280_S256x1280_0_0 Gen.inb_S1x5120_S1x256_0_0)

/-- The lane maxima after 2 chunks. -/
theorem max2 : IsMax (gT x0 x1 x2 x3 x4) 2 (kernelRun0_A.sl.v169 (F := Ideal) c arg1 harg1 arg2 harg2 arg3 harg3 arg4 harg4 arg5 harg5 arg9 arg10 x0 x1 x2 x3 x4) := by
  unfold kernelRun0_A.sl.v169 kernelRun0_A.sl.HS2_2
  rw [View.readCov_cons_toLoadRect]
  exact isMax_step 1 (by omega) (chP_chunk c arg1 harg1 arg2 harg2 arg3 harg3 arg4 harg4 arg5 harg5 arg9 x0 x1 x2 x3 x4 1 256 rfl Gen.inb_S5120x1280_S256x1280_256_0 Gen.inb_S1x5120_S1x256_0_256) (max1 c arg1 harg1 arg2 harg2 arg3 harg3 arg4 harg4 arg5 harg5 arg9 arg10 x0 x1 x2 x3 x4)

/-- The lane maxima after 3 chunks. -/
theorem max3 : IsMax (gT x0 x1 x2 x3 x4) 3 (kernelRun0_A.sl.v215 (F := Ideal) c arg1 harg1 arg2 harg2 arg3 harg3 arg4 harg4 arg5 harg5 arg9 arg10 x0 x1 x2 x3 x4) := by
  unfold kernelRun0_A.sl.v215 kernelRun0_A.sl.HS2_3
  rw [View.readCov_cons_toLoadRect]
  exact isMax_step 2 (by omega) (chP_chunk c arg1 harg1 arg2 harg2 arg3 harg3 arg4 harg4 arg5 harg5 arg9 x0 x1 x2 x3 x4 2 512 rfl Gen.inb_S5120x1280_S256x1280_512_0 Gen.inb_S1x5120_S1x256_0_512) (max2 c arg1 harg1 arg2 harg2 arg3 harg3 arg4 harg4 arg5 harg5 arg9 arg10 x0 x1 x2 x3 x4)

/-- The lane maxima after 4 chunks. -/
theorem max4 : IsMax (gT x0 x1 x2 x3 x4) 4 (kernelRun0_A.sl.v261 (F := Ideal) c arg1 harg1 arg2 harg2 arg3 harg3 arg4 harg4 arg5 harg5 arg9 arg10 x0 x1 x2 x3 x4) := by
  unfold kernelRun0_A.sl.v261 kernelRun0_A.sl.HS2_4
  rw [View.readCov_cons_toLoadRect]
  exact isMax_step 3 (by omega) (chP_chunk c arg1 harg1 arg2 harg2 arg3 harg3 arg4 harg4 arg5 harg5 arg9 x0 x1 x2 x3 x4 3 768 rfl Gen.inb_S5120x1280_S256x1280_768_0 Gen.inb_S1x5120_S1x256_0_768) (max3 c arg1 harg1 arg2 harg2 arg3 harg3 arg4 harg4 arg5 harg5 arg9 arg10 x0 x1 x2 x3 x4)

/-- The lane maxima after 5 chunks. -/
theorem max5 : IsMax (gT x0 x1 x2 x3 x4) 5 (kernelRun0_A.sl.v307 (F := Ideal) c arg1 harg1 arg2 harg2 arg3 harg3 arg4 harg4 arg5 harg5 arg9 arg10 x0 x1 x2 x3 x4) := by
  unfold kernelRun0_A.sl.v307 kernelRun0_A.sl.HS2_5
  rw [View.readCov_cons_toLoadRect]
  exact isMax_step 4 (by omega) (chP_chunk c arg1 harg1 arg2 harg2 arg3 harg3 arg4 harg4 arg5 harg5 arg9 x0 x1 x2 x3 x4 4 1024 rfl Gen.inb_S5120x1280_S256x1280_1024_0 Gen.inb_S1x5120_S1x256_0_1024) (max4 c arg1 harg1 arg2 harg2 arg3 harg3 arg4 harg4 arg5 harg5 arg9 arg10 x0 x1 x2 x3 x4)

/-- The lane maxima after 6 chunks. -/
theorem max6 : IsMax (gT x0 x1 x2 x3 x4) 6 (kernelRun0_A.sl.v353 (F := Ideal) c arg1 harg1 arg2 harg2 arg3 harg3 arg4 harg4 arg5 harg5 arg9 arg10 x0 x1 x2 x3 x4) := by
  unfold kernelRun0_A.sl.v353 kernelRun0_A.sl.HS2_6
  rw [View.readCov_cons_toLoadRect]
  exact isMax_step 5 (by omega) (chP_chunk c arg1 harg1 arg2 harg2 arg3 harg3 arg4 harg4 arg5 harg5 arg9 x0 x1 x2 x3 x4 5 1280 rfl Gen.inb_S5120x1280_S256x1280_1280_0 Gen.inb_S1x5120_S1x256_0_1280) (max5 c arg1 harg1 arg2 harg2 arg3 harg3 arg4 harg4 arg5 harg5 arg9 arg10 x0 x1 x2 x3 x4)

/-- The lane maxima after 7 chunks. -/
theorem max7 : IsMax (gT x0 x1 x2 x3 x4) 7 (kernelRun0_A.sl.v399 (F := Ideal) c arg1 harg1 arg2 harg2 arg3 harg3 arg4 harg4 arg5 harg5 arg9 arg10 x0 x1 x2 x3 x4) := by
  unfold kernelRun0_A.sl.v399 kernelRun0_A.sl.HS2_7
  rw [View.readCov_cons_toLoadRect]
  exact isMax_step 6 (by omega) (chP_chunk c arg1 harg1 arg2 harg2 arg3 harg3 arg4 harg4 arg5 harg5 arg9 x0 x1 x2 x3 x4 6 1536 rfl Gen.inb_S5120x1280_S256x1280_1536_0 Gen.inb_S1x5120_S1x256_0_1536) (max6 c arg1 harg1 arg2 harg2 arg3 harg3 arg4 harg4 arg5 harg5 arg9 arg10 x0 x1 x2 x3 x4)

/-- The lane maxima after 8 chunks. -/
theorem max8 : IsMax (gT x0 x1 x2 x3 x4) 8 (kernelRun0_A.sl.v445 (F := Ideal) c arg1 harg1 arg2 harg2 arg3 harg3 arg4 harg4 arg5 harg5 arg9 arg10 x0 x1 x2 x3 x4) := by
  unfold kernelRun0_A.sl.v445 kernelRun0_A.sl.HS2_8
  rw [View.readCov_cons_toLoadRect]
  exact isMax_step 7 (by omega) (chP_chunk c arg1 harg1 arg2 harg2 arg3 harg3 arg4 harg4 arg5 harg5 arg9 x0 x1 x2 x3 x4 7 1792 rfl Gen.inb_S5120x1280_S256x1280_1792_0 Gen.inb_S1x5120_S1x256_0_1792) (max7 c arg1 harg1 arg2 harg2 arg3 harg3 arg4 harg4 arg5 harg5 arg9 arg10 x0 x1 x2 x3 x4)

/-- The lane maxima after 9 chunks. -/
theorem max9 : IsMax (gT x0 x1 x2 x3 x4) 9 (kernelRun0_A.sl.v491 (F := Ideal) c arg1 harg1 arg2 harg2 arg3 harg3 arg4 harg4 arg5 harg5 arg9 arg10 x0 x1 x2 x3 x4) := by
  unfold kernelRun0_A.sl.v491 kernelRun0_A.sl.HS2_9
  rw [View.readCov_cons_toLoadRect]
  exact isMax_step 8 (by omega) (chP_chunk c arg1 harg1 arg2 harg2 arg3 harg3 arg4 harg4 arg5 harg5 arg9 x0 x1 x2 x3 x4 8 2048 rfl Gen.inb_S5120x1280_S256x1280_2048_0 Gen.inb_S1x5120_S1x256_0_2048) (max8 c arg1 harg1 arg2 harg2 arg3 harg3 arg4 harg4 arg5 harg5 arg9 arg10 x0 x1 x2 x3 x4)

/-- The lane maxima after 10 chunks. -/
theorem max10 : IsMax (gT x0 x1 x2 x3 x4) 10 (kernelRun0_A.sl.v537 (F := Ideal) c arg1 harg1 arg2 harg2 arg3 harg3 arg4 harg4 arg5 harg5 arg9 arg10 x0 x1 x2 x3 x4) := by
  unfold kernelRun0_A.sl.v537 kernelRun0_A.sl.HS2_10
  rw [View.readCov_cons_toLoadRect]
  exact isMax_step 9 (by omega) (chP_chunk c arg1 harg1 arg2 harg2 arg3 harg3 arg4 harg4 arg5 harg5 arg9 x0 x1 x2 x3 x4 9 2304 rfl Gen.inb_S5120x1280_S256x1280_2304_0 Gen.inb_S1x5120_S1x256_0_2304) (max9 c arg1 harg1 arg2 harg2 arg3 harg3 arg4 harg4 arg5 harg5 arg9 arg10 x0 x1 x2 x3 x4)

/-- The lane maxima after 11 chunks. -/
theorem max11 : IsMax (gT x0 x1 x2 x3 x4) 11 (kernelRun0_A.sl.v583 (F := Ideal) c arg1 harg1 arg2 harg2 arg3 harg3 arg4 harg4 arg5 harg5 arg9 arg10 x0 x1 x2 x3 x4) := by
  unfold kernelRun0_A.sl.v583 kernelRun0_A.sl.HS2_11
  rw [View.readCov_cons_toLoadRect]
  exact isMax_step 10 (by omega) (chP_chunk c arg1 harg1 arg2 harg2 arg3 harg3 arg4 harg4 arg5 harg5 arg9 x0 x1 x2 x3 x4 10 2560 rfl Gen.inb_S5120x1280_S256x1280_2560_0 Gen.inb_S1x5120_S1x256_0_2560) (max10 c arg1 harg1 arg2 harg2 arg3 harg3 arg4 harg4 arg5 harg5 arg9 arg10 x0 x1 x2 x3 x4)

/-- The lane maxima after 12 chunks. -/
theorem max12 : IsMax (gT x0 x1 x2 x3 x4) 12 (kernelRun0_A.sl.v629 (F := Ideal) c arg1 harg1 arg2 harg2 arg3 harg3 arg4 harg4 arg5 harg5 arg9 arg10 x0 x1 x2 x3 x4) := by
  unfold kernelRun0_A.sl.v629 kernelRun0_A.sl.HS2_12
  rw [View.readCov_cons_toLoadRect]
  exact isMax_step 11 (by omega) (chP_chunk c arg1 harg1 arg2 harg2 arg3 harg3 arg4 harg4 arg5 harg5 arg9 x0 x1 x2 x3 x4 11 2816 rfl Gen.inb_S5120x1280_S256x1280_2816_0 Gen.inb_S1x5120_S1x256_0_2816) (max11 c arg1 harg1 arg2 harg2 arg3 harg3 arg4 harg4 arg5 harg5 arg9 arg10 x0 x1 x2 x3 x4)

/-- The lane maxima after 13 chunks. -/
theorem max13 : IsMax (gT x0 x1 x2 x3 x4) 13 (kernelRun0_A.sl.v675 (F := Ideal) c arg1 harg1 arg2 harg2 arg3 harg3 arg4 harg4 arg5 harg5 arg9 arg10 x0 x1 x2 x3 x4) := by
  unfold kernelRun0_A.sl.v675 kernelRun0_A.sl.HS2_13
  rw [View.readCov_cons_toLoadRect]
  exact isMax_step 12 (by omega) (chP_chunk c arg1 harg1 arg2 harg2 arg3 harg3 arg4 harg4 arg5 harg5 arg9 x0 x1 x2 x3 x4 12 3072 rfl Gen.inb_S5120x1280_S256x1280_3072_0 Gen.inb_S1x5120_S1x256_0_3072) (max12 c arg1 harg1 arg2 harg2 arg3 harg3 arg4 harg4 arg5 harg5 arg9 arg10 x0 x1 x2 x3 x4)

/-- The lane maxima after 14 chunks. -/
theorem max14 : IsMax (gT x0 x1 x2 x3 x4) 14 (kernelRun0_A.sl.v721 (F := Ideal) c arg1 harg1 arg2 harg2 arg3 harg3 arg4 harg4 arg5 harg5 arg9 arg10 x0 x1 x2 x3 x4) := by
  unfold kernelRun0_A.sl.v721 kernelRun0_A.sl.HS2_14
  rw [View.readCov_cons_toLoadRect]
  exact isMax_step 13 (by omega) (chP_chunk c arg1 harg1 arg2 harg2 arg3 harg3 arg4 harg4 arg5 harg5 arg9 x0 x1 x2 x3 x4 13 3328 rfl Gen.inb_S5120x1280_S256x1280_3328_0 Gen.inb_S1x5120_S1x256_0_3328) (max13 c arg1 harg1 arg2 harg2 arg3 harg3 arg4 harg4 arg5 harg5 arg9 arg10 x0 x1 x2 x3 x4)

/-- The lane maxima after 15 chunks. -/
theorem max15 : IsMax (gT x0 x1 x2 x3 x4) 15 (kernelRun0_A.sl.v767 (F := Ideal) c arg1 harg1 arg2 harg2 arg3 harg3 arg4 harg4 arg5 harg5 arg9 arg10 x0 x1 x2 x3 x4) := by
  unfold kernelRun0_A.sl.v767 kernelRun0_A.sl.HS2_15
  rw [View.readCov_cons_toLoadRect]
  exact isMax_step 14 (by omega) (chP_chunk c arg1 harg1 arg2 harg2 arg3 harg3 arg4 harg4 arg5 harg5 arg9 x0 x1 x2 x3 x4 14 3584 rfl Gen.inb_S5120x1280_S256x1280_3584_0 Gen.inb_S1x5120_S1x256_0_3584) (max14 c arg1 harg1 arg2 harg2 arg3 harg3 arg4 harg4 arg5 harg5 arg9 arg10 x0 x1 x2 x3 x4)

/-- The lane maxima after 16 chunks. -/
theorem max16 : IsMax (gT x0 x1 x2 x3 x4) 16 (kernelRun0_A.sl.v813 (F := Ideal) c arg1 harg1 arg2 harg2 arg3 harg3 arg4 harg4 arg5 harg5 arg9 arg10 x0 x1 x2 x3 x4) := by
  unfold kernelRun0_A.sl.v813 kernelRun0_A.sl.HS2_16
  rw [View.readCov_cons_toLoadRect]
  exact isMax_step 15 (by omega) (chP_chunk c arg1 harg1 arg2 harg2 arg3 harg3 arg4 harg4 arg5 harg5 arg9 x0 x1 x2 x3 x4 15 3840 rfl Gen.inb_S5120x1280_S256x1280_3840_0 Gen.inb_S1x5120_S1x256_0_3840) (max15 c arg1 harg1 arg2 harg2 arg3 harg3 arg4 harg4 arg5 harg5 arg9 arg10 x0 x1 x2 x3 x4)

/-- The lane maxima after 17 chunks. -/
theorem max17 : IsMax (gT x0 x1 x2 x3 x4) 17 (kernelRun0_A.sl.v859 (F := Ideal) c arg1 harg1 arg2 harg2 arg3 harg3 arg4 harg4 arg5 harg5 arg9 arg10 x0 x1 x2 x3 x4) := by
  unfold kernelRun0_A.sl.v859 kernelRun0_A.sl.HS2_17
  rw [View.readCov_cons_toLoadRect]
  exact isMax_step 16 (by omega) (chP_chunk c arg1 harg1 arg2 harg2 arg3 harg3 arg4 harg4 arg5 harg5 arg9 x0 x1 x2 x3 x4 16 4096 rfl Gen.inb_S5120x1280_S256x1280_4096_0 Gen.inb_S1x5120_S1x256_0_4096) (max16 c arg1 harg1 arg2 harg2 arg3 harg3 arg4 harg4 arg5 harg5 arg9 arg10 x0 x1 x2 x3 x4)

/-- The lane maxima after 18 chunks. -/
theorem max18 : IsMax (gT x0 x1 x2 x3 x4) 18 (kernelRun0_A.sl.v905 (F := Ideal) c arg1 harg1 arg2 harg2 arg3 harg3 arg4 harg4 arg5 harg5 arg9 arg10 x0 x1 x2 x3 x4) := by
  unfold kernelRun0_A.sl.v905 kernelRun0_A.sl.HS2_18
  rw [View.readCov_cons_toLoadRect]
  exact isMax_step 17 (by omega) (chP_chunk c arg1 harg1 arg2 harg2 arg3 harg3 arg4 harg4 arg5 harg5 arg9 x0 x1 x2 x3 x4 17 4352 rfl Gen.inb_S5120x1280_S256x1280_4352_0 Gen.inb_S1x5120_S1x256_0_4352) (max17 c arg1 harg1 arg2 harg2 arg3 harg3 arg4 harg4 arg5 harg5 arg9 arg10 x0 x1 x2 x3 x4)

/-- The lane maxima after 19 chunks. -/
theorem max19 : IsMax (gT x0 x1 x2 x3 x4) 19 (kernelRun0_A.sl.v951 (F := Ideal) c arg1 harg1 arg2 harg2 arg3 harg3 arg4 harg4 arg5 harg5 arg9 arg10 x0 x1 x2 x3 x4) := by
  unfold kernelRun0_A.sl.v951 kernelRun0_A.sl.HS2_19
  rw [View.readCov_cons_toLoadRect]
  exact isMax_step 18 (by omega) (chP_chunk c arg1 harg1 arg2 harg2 arg3 harg3 arg4 harg4 arg5 harg5 arg9 x0 x1 x2 x3 x4 18 4608 rfl Gen.inb_S5120x1280_S256x1280_4608_0 Gen.inb_S1x5120_S1x256_0_4608) (max18 c arg1 harg1 arg2 harg2 arg3 harg3 arg4 harg4 arg5 harg5 arg9 arg10 x0 x1 x2 x3 x4)

/-- The lane maxima after all chunks, read back through a row block. -/
theorem max20 (o : ℕ) (h : ∀ d, (![o, 0] : Fin 2 → ℕ) d + S128x128.size d ≤ S512x128.size d) (r : Fin 128) (r' : Fin 512) (hr : r'.val = o + r.val) :
    Finset.fold max (Ideal.ofBits .f32 0xFF800000#32) (fun l : Fin 128 => arg10.view.readCov (kernelRun0_A.sl.HS2_20 (F := Ideal) c arg1 harg1 arg2 harg2 arg3 harg3 arg4 harg4 arg5 harg5 arg9 arg10 x0 x1 x2 x3 x4) (Rect.unit (s := S512x128) ![o, 0] S128x128.size h).toLoadRect (ix2 r l)) Finset.univ
      = mxT (gT x0 x1 x2 x3 x4) r' := by
  refine Eq.trans ?_ (isMax_lanes (isMax_step 19 (by omega) (chP_chunk c arg1 harg1 arg2 harg2 arg3 harg3 arg4 harg4 arg5 harg5 arg9 x0 x1 x2 x3 x4 19 4864 rfl Gen.inb_S5120x1280_S256x1280_4864_0 Gen.inb_S1x5120_S1x256_0_4864) (max19 c arg1 harg1 arg2 harg2 arg3 harg3 arg4 harg4 arg5 harg5 arg9 arg10 x0 x1 x2 x3 x4)) r')
  refine congrArg (fun f => Finset.fold max (Ideal.ofBits .f32 0xFF800000#32) f Finset.univ) (funext fun l => ?_)
  rw [View.readCov_eq_canon']
  unfold kernelRun0_A.sl.HS2_20
  rw [View.canon_cons_unit_lit Gen.inb_S512x128_S512x128_0_0 _ _ (by decide)]
  refine congrArg (stepP (chP c arg1 harg1 arg2 harg2 arg3 harg3 arg4 harg4 arg5 harg5 arg9 x0 x1 x2 x3 x4 4864 Gen.inb_S5120x1280_S256x1280_4864_0 Gen.inb_S1x5120_S1x256_0_4864) (kernelRun0_A.sl.v951 (F := Ideal) c arg1 harg1 arg2 harg2 arg3 harg3 arg4 harg4 arg5 harg5 arg9 arg10 x0 x1 x2 x3 x4)) (funext fun d => Fin.ext ?_)
  match d with
  | ⟨0, _⟩ => show o + 1 * r.val = r'.val; omega
  | ⟨1, _⟩ => show 0 + 1 * l.val = l.val; omega

/-- A stored row block of scales is the scale of its rows. -/
theorem sc_piece (o : ℕ) (h : ∀ d, (![o, 0] : Fin 2 → ℕ) d + S128x128.size d ≤ S512x128.size d) (hout : ∀ d, (![0, 0, o] : Fin 3 → ℕ) d + S1x1x128.size d ≤ S1x1x512.size d) (x : S1x1x128.Idx) :
    scP (arg10.view.readCov (kernelRun0_A.sl.HS2_20 (F := Ideal) c arg1 harg1 arg2 harg2 arg3 harg3 arg4 harg4 arg5 harg5 arg9 arg10 x0 x1 x2 x3 x4) (Rect.unit (s := S512x128) ![o, 0] S128x128.size h).toLoadRect) x
      = scT (gT x0 x1 x2 x3 x4) ((Rect.unit (s := S1x1x512) ![0, 0, o] S1x1x128.size hout).emb x) :=
  (scP_apply _ x).trans (congrArg (fun a => scS (tS a)) (max20 c arg1 harg1 arg2 harg2 arg3 harg3 arg4 harg4 arg5 harg5 arg9 arg10 x0 x1 x2 x3 x4 o h (x 2) _ (by show o + 1 * (x 2).val = o + (x 2).val; omega)))

/-- A stored row block of inverse scales is the inverse scale of its rows. -/
theorem inv_piece (o : ℕ) (h : ∀ d, (![o, 0] : Fin 2 → ℕ) d + S128x128.size d ≤ S512x128.size d) (x : S128x128.Idx) :
    invP (arg10.view.readCov (kernelRun0_A.sl.HS2_20 (F := Ideal) c arg1 harg1 arg2 harg2 arg3 harg3 arg4 harg4 arg5 harg5 arg9 arg10 x0 x1 x2 x3 x4) (Rect.unit (s := S512x128) ![o, 0] S128x128.size h).toLoadRect) x
      = invT (gT x0 x1 x2 x3 x4) ((Rect.unit (s := S512x128) ![o, 0] S128x128.size h).emb x) :=
  (invP_apply _ x).trans (congrArg (fun a => invS (tS a)) (max20 c arg1 harg1 arg2 harg2 arg3 harg3 arg4 harg4 arg5 harg5 arg9 arg10 x0 x1 x2 x3 x4 o h (x 0) _ (by show o + 1 * (x 0).val = o + (x 0).val; omega)))

/-- What case A leaves in the scale window, piece by piece. -/
theorem sA_pieces : ∀ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.1, ∀ x : p.1.shape.Idx, p.2 x = scT (gT x0 x1 x2 x3 x4) (p.1.emb x) := by
  refine List.forall_mem_cons.2 ⟨?_, List.forall_mem_cons.2 ⟨?_, List.forall_mem_cons.2 ⟨?_, List.forall_mem_cons.2 ⟨?_, fun _ h => absurd h List.not_mem_nil⟩⟩⟩⟩
  · exact sc_piece c arg1 harg1 arg2 harg2 arg3 harg3 arg4 harg4 arg5 harg5 arg9 arg10 x0 x1 x2 x3 x4 384 Gen.inb_S512x128_S128x128_384_0 Gen.inb_S1x1x512_S1x1x128_0_0_384
  · exact sc_piece c arg1 harg1 arg2 harg2 arg3 harg3 arg4 harg4 arg5 harg5 arg9 arg10 x0 x1 x2 x3 x4 256 Gen.inb_S512x128_S128x128_256_0 Gen.inb_S1x1x512_S1x1x128_0_0_256
  · exact sc_piece c arg1 harg1 arg2 harg2 arg3 harg3 arg4 harg4 arg5 harg5 arg9 arg10 x0 x1 x2 x3 x4 128 Gen.inb_S512x128_S128x128_128_0 Gen.inb_S1x1x512_S1x1x128_0_0_128
  · exact sc_piece c arg1 harg1 arg2 harg2 arg3 harg3 arg4 harg4 arg5 harg5 arg9 arg10 x0 x1 x2 x3 x4 0 Gen.inb_S512x128_S128x128_0_0 Gen.inb_S1x1x512_S1x1x128_0_0_0

/-- What case A leaves in the inverse-scale scratch, piece by piece. -/
theorem iA_pieces : ∀ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.2.2.2.val, ∀ x : p.1.shape.Idx, p.2 x = invT (gT x0 x1 x2 x3 x4) (p.1.emb x) := by
  refine List.forall_mem_cons.2 ⟨?_, List.forall_mem_cons.2 ⟨?_, List.forall_mem_cons.2 ⟨?_, List.forall_mem_cons.2 ⟨?_, fun _ h => absurd h List.not_mem_nil⟩⟩⟩⟩
  · exact inv_piece c arg1 harg1 arg2 harg2 arg3 harg3 arg4 harg4 arg5 harg5 arg9 arg10 x0 x1 x2 x3 x4 384 Gen.inb_S512x128_S128x128_384_0
  · exact inv_piece c arg1 harg1 arg2 harg2 arg3 harg3 arg4 harg4 arg5 harg5 arg9 arg10 x0 x1 x2 x3 x4 256 Gen.inb_S512x128_S128x128_256_0
  · exact inv_piece c arg1 harg1 arg2 harg2 arg3 harg3 arg4 harg4 arg5 harg5 arg9 arg10 x0 x1 x2 x3 x4 128 Gen.inb_S512x128_S128x128_128_0
  · exact inv_piece c arg1 harg1 arg2 harg2 arg3 harg3 arg4 harg4 arg5 harg5 arg9 arg10 x0 x1 x2 x3 x4 0 Gen.inb_S512x128_S128x128_0_0

/-- Its pieces cover the block. -/
theorem sA_cover (y : S1x1x512.Idx) : ∃ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.1, y ∈ p.1.set :=
  View.cover_of_tiled _ ![1, 1, 128] (by sl_kernel_rfl) y

/-- After case A the scale window reads its rows' scales. -/
theorem sA_read (f : arg7.view.ty.Contents (Elt Ideal)) : arg7.view.read (Elt Ideal) (arg7.view.writes (Elt Ideal) f (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.1) = scT (gT x0 x1 x2 x3 x4) :=
  funext fun y => View.read_writes_apply_of_pieces arg7.view f (scT (gT x0 x1 x2 x3 x4)) _ (sA_pieces c i arg1 harg1 arg2 harg2 arg3 harg3 arg4 harg4 arg5 harg5 arg6 harg6 arg7 harg7 arg8 harg8 arg9 harg9 arg10 harg10 arg11 harg11 hc0 hc1 x0 x1 x2 x3 x4 xs0 xs3) y
    (sA_cover c i arg1 harg1 arg2 harg2 arg3 harg3 arg4 harg4 arg5 harg5 arg6 harg6 arg7 harg7 arg8 harg8 arg9 harg9 arg10 harg10 arg11 harg11 hc0 hc1 x0 x1 x2 x3 x4 xs0 xs3 y)

/-- Its pieces cover the block. -/
theorem iA_cover (y : S512x128.Idx) : ∃ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.2.2.2.val, y ∈ p.1.set :=
  View.cover_of_tiled _ ![128, 128] (by sl_kernel_rfl) y

/-- After case A the inverse-scale scratch reads its rows' inverse scales. -/
theorem iA_read (f : arg11.view.ty.Contents (Elt Ideal)) : arg11.view.read (Elt Ideal) (arg11.view.writes (Elt Ideal) f (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).2.2.2.2.2.val) = invT (gT x0 x1 x2 x3 x4) :=
  funext fun y => View.read_writes_apply_of_pieces arg11.view f (invT (gT x0 x1 x2 x3 x4)) _ (iA_pieces c i arg1 harg1 arg2 harg2 arg3 harg3 arg4 harg4 arg5 harg5 arg6 harg6 arg7 harg7 arg8 harg8 arg9 harg9 arg10 harg10 arg11 harg11 hc0 hc1 x0 x1 x2 x3 x4 xs0 xs3) y
    (iA_cover c i arg1 harg1 arg2 harg2 arg3 harg3 arg4 harg4 arg5 harg5 arg6 harg6 arg7 harg7 arg8 harg8 arg9 harg9 arg10 harg10 arg11 harg11 hc0 hc1 x0 x1 x2 x3 x4 xs0 xs3 y)

end A

end Cert.KernelIdeal.Hand

end
-- ==== Proof.KI.ValsQ.lean ====
/-
  The codes that a point writes: the tile of the point before, times its inverse scales, clamped.
-/
module

public import proofs.«01_k».proof.Proof.KI.Vals
public import Idealize.ShloMosaic.Lib.Pointwise
public import Idealize.ShloMosaic.Lib.ValueLayout
public import Idealize.ShloMosaic.Lib.WholeRead

@[expose] public section

set_option maxRecDepth 16384

noncomputable section

namespace Cert.KernelIdeal.Hand

open Idealize.ShloMosaic Idealize.ShloMosaic.TcCoe Idealize.SL.Sem
open Cert.KernelIdeal Cert.KernelIdeal.Gen

/-- The codes of a tile, its rows' inverse scales given by `f`. -/
def cdT (g : S512x5120.Idx → EReal) (f : Fin 512 → EReal) : Vec Ideal S512x5120 .fp8e4m3 := fun y => qS (g y) (f (y 0))

section A

variable (c : Dev nD) (i : grid0.Coords) (arg1 : Memref sig .tc .vmem S512x1280 .fp8e4m3) (harg1 : arg1.IsWhole) (arg2 : Memref sig .tc .vmem S1x1x512 .f32) (harg2 : arg2.IsWhole) (arg3 : Memref sig .tc .vmem S5120x1280 .fp8e4m3) (harg3 : arg3.IsWhole) (arg4 : Memref sig .tc .vmem S1x5120 .f32) (harg4 : arg4.IsWhole) (arg5 : Memref sig .tc .vmem S1x5120 .bf16) (harg5 : arg5.IsWhole) (arg6 : Memref sig .tc .vmem S512x5120 .fp8e4m3) (harg6 : arg6.IsWhole) (arg7 : Memref sig .tc .vmem S1x1x512 .f32) (harg7 : arg7.IsWhole) (arg8 : Memref sig .tc .vmem S512x5120 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cond0_0 i) (hc1 : ¬cond0_1 i)
  (x0 : Vec Ideal S512x1280 .fp8e4m3) (x1 : Vec Ideal S1x1x512 .f32) (x2 : Vec Ideal S5120x1280 .fp8e4m3) (x3 : Vec Ideal S1x5120 .f32) (x4 : Vec Ideal S1x5120 .bf16) (xs0 : Vec Ideal S512x5120 .f32) (xs3 : Vec Ideal S512x128 .f32)

/-- A stored chunk of codes is the tile's codes at the stored place. -/
theorem q_piece (f : Fin 512 → EReal) (hf : ∀ r l, xs3 (ix2 r l) = f r) (o : ℕ) (h : ∀ d, (![0, o] : Fin 2 → ℕ) d + S512x256.size d ≤ S512x5120.size d) (x : S512x256.Idx) :
    k0_pay3 (F := Ideal) (View.readAt (Elt Ideal) arg11.view (Rect.unit ![0, 0] S512x128.size Gen.inb_S512x128_S512x128_0_0).toLoadRect (harg11.unread xs3))
        (View.readAt (Elt Ideal) arg8.view (Rect.unit (s := S512x5120) ![0, o] S512x256.size h).toLoadRect (harg8.unread xs0)) x
      = cdT xs0 f ((Rect.unit (s := S512x5120) ![0, o] S512x256.size h).emb x) := by
  rw [pay3_apply _ _ f (fun r l => (read2 harg11 xs3 0 0 Gen.inb_S512x128_S512x128_0_0 r l r l (by omega) (by omega)).trans (hf r l))]
  have e0 : (Rect.unit (s := S512x5120) ![0, o] S512x256.size h).emb x 0 = x 0 := Fin.ext (by show 0 + 1 * (x 0).val = (x 0).val; omega)
  have e1 := (harg8.readAt_unread xs0 (Rect.unit (s := S512x5120) ![0, o] S512x256.size h).toLoadRect x)
  refine congrArg₂ qS (e1.trans rfl) (congrArg f e0.symm)

/-- What case A leaves in the codes window, piece by piece. -/
theorem cA_pieces (f : Fin 512 → EReal) (hf : ∀ r l, xs3 (ix2 r l) = f r) : ∀ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).1, ∀ x : p.1.shape.Idx, p.2 x = cdT xs0 f (p.1.emb x) := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩
  · exact q_piece arg8 harg8 arg11 harg11 xs0 xs3 f hf 4864 Gen.inb_S512x5120_S512x256_0_4864
  · exact q_piece arg8 harg8 arg11 harg11 xs0 xs3 f hf 4608 Gen.inb_S512x5120_S512x256_0_4608
  · exact q_piece arg8 harg8 arg11 harg11 xs0 xs3 f hf 4352 Gen.inb_S512x5120_S512x256_0_4352
  · exact q_piece arg8 harg8 arg11 harg11 xs0 xs3 f hf 4096 Gen.inb_S512x5120_S512x256_0_4096
  · exact q_piece arg8 harg8 arg11 harg11 xs0 xs3 f hf 3840 Gen.inb_S512x5120_S512x256_0_3840
  · exact q_piece arg8 harg8 arg11 harg11 xs0 xs3 f hf 3584 Gen.inb_S512x5120_S512x256_0_3584
  · exact q_piece arg8 harg8 arg11 harg11 xs0 xs3 f hf 3328 Gen.inb_S512x5120_S512x256_0_3328
  · exact q_piece arg8 harg8 arg11 harg11 xs0 xs3 f hf 3072 Gen.inb_S512x5120_S512x256_0_3072
  · exact q_piece arg8 harg8 arg11 harg11 xs0 xs3 f hf 2816 Gen.inb_S512x5120_S512x256_0_2816
  · exact q_piece arg8 harg8 arg11 harg11 xs0 xs3 f hf 2560 Gen.inb_S512x5120_S512x256_0_2560
  · exact q_piece arg8 harg8 arg11 harg11 xs0 xs3 f hf 2304 Gen.inb_S512x5120_S512x256_0_2304
  · exact q_piece arg8 harg8 arg11 harg11 xs0 xs3 f hf 2048 Gen.inb_S512x5120_S512x256_0_2048
  · exact q_piece arg8 harg8 arg11 harg11 xs0 xs3 f hf 1792 Gen.inb_S512x5120_S512x256_0_1792
  · exact q_piece arg8 harg8 arg11 harg11 xs0 xs3 f hf 1536 Gen.inb_S512x5120_S512x256_0_1536
  · exact q_piece arg8 harg8 arg11 harg11 xs0 xs3 f hf 1280 Gen.inb_S512x5120_S512x256_0_1280
  · exact q_piece arg8 harg8 arg11 harg11 xs0 xs3 f hf 1024 Gen.inb_S512x5120_S512x256_0_1024
  · exact q_piece arg8 harg8 arg11 harg11 xs0 xs3 f hf 768 Gen.inb_S512x5120_S512x256_0_768
  · exact q_piece arg8 harg8 arg11 harg11 xs0 xs3 f hf 512 Gen.inb_S512x5120_S512x256_0_512
  · exact q_piece arg8 harg8 arg11 harg11 xs0 xs3 f hf 256 Gen.inb_S512x5120_S512x256_0_256
  · exact q_piece arg8 harg8 arg11 harg11 xs0 xs3 f hf 0 Gen.inb_S512x5120_S512x256_0_0

/-- Its pieces cover the codes window. -/
theorem cA_cover (y : S512x5120.Idx) : ∃ p ∈ (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).1, y ∈ p.1.set :=
  View.cover_of_tiled _ ![512, 256] (by sl_kernel_rfl) y

/-- After case A the codes window reads the codes of the tile held before. -/
theorem cA_read (f : Fin 512 → EReal) (hf : ∀ r l, xs3 (ix2 r l) = f r) (g : arg6.view.ty.Contents (Elt Ideal)) : arg6.view.read (Elt Ideal) (arg6.view.writes (Elt Ideal) g (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs3).1) = cdT xs0 f :=
  funext fun y => View.read_writes_apply_of_pieces arg6.view g (cdT xs0 f) _ (cA_pieces c i arg1 harg1 arg2 harg2 arg3 harg3 arg4 harg4 arg5 harg5 arg6 harg6 arg7 harg7 arg8 harg8 arg9 harg9 arg10 harg10 arg11 harg11 hc0 hc1 x0 x1 x2 x3 x4 xs0 xs3 f hf) y (cA_cover c i arg1 harg1 arg2 harg2 arg3 harg3 arg4 harg4 arg5 harg5 arg6 harg6 arg7 harg7 arg8 harg8 arg9 harg9 arg10 harg10 arg11 harg11 hc0 hc1 x0 x1 x2 x3 x4 xs0 xs3 y)

/-- What case B leaves in the codes window, piece by piece. -/
theorem cB_pieces (hb0 : ¬cond0_0 i) (hb1 : cond0_1 i) (y6 : Vec Ideal S1x1x512 .f32) (f : Fin 512 → EReal) (hf : ∀ r l, xs3 (ix2 r l) = f r) : ∀ p ∈ (kernelRun0_B (F := Ideal) c i arg1 harg1 arg2 harg2 arg3 harg3 arg4 harg4 arg5 harg5 arg6 harg6 arg7 harg7 arg8 harg8 arg9 harg9 arg10 harg10 arg11 harg11 hb0 hb1 x0 x1 x2 x3 x4 xs0 xs3 y6).val, ∀ x : p.1.shape.Idx, p.2 x = cdT xs0 f (p.1.emb x) := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩
  · exact q_piece arg8 harg8 arg11 harg11 xs0 xs3 f hf 4864 Gen.inb_S512x5120_S512x256_0_4864
  · exact q_piece arg8 harg8 arg11 harg11 xs0 xs3 f hf 4608 Gen.inb_S512x5120_S512x256_0_4608
  · exact q_piece arg8 harg8 arg11 harg11 xs0 xs3 f hf 4352 Gen.inb_S512x5120_S512x256_0_4352
  · exact q_piece arg8 harg8 arg11 harg11 xs0 xs3 f hf 4096 Gen.inb_S512x5120_S512x256_0_4096
  · exact q_piece arg8 harg8 arg11 harg11 xs0 xs3 f hf 3840 Gen.inb_S512x5120_S512x256_0_3840
  · exact q_piece arg8 harg8 arg11 harg11 xs0 xs3 f hf 3584 Gen.inb_S512x5120_S512x256_0_3584
  · exact q_piece arg8 harg8 arg11 harg11 xs0 xs3 f hf 3328 Gen.inb_S512x5120_S512x256_0_3328
  · exact q_piece arg8 harg8 arg11 harg11 xs0 xs3 f hf 3072 Gen.inb_S512x5120_S512x256_0_3072
  · exact q_piece arg8 harg8 arg11 harg11 xs0 xs3 f hf 2816 Gen.inb_S512x5120_S512x256_0_2816
  · exact q_piece arg8 harg8 arg11 harg11 xs0 xs3 f hf 2560 Gen.inb_S512x5120_S512x256_0_2560
  · exact q_piece arg8 harg8 arg11 harg11 xs0 xs3 f hf 2304 Gen.inb_S512x5120_S512x256_0_2304
  · exact q_piece arg8 harg8 arg11 harg11 xs0 xs3 f hf 2048 Gen.inb_S512x5120_S512x256_0_2048
  · exact q_piece arg8 harg8 arg11 harg11 xs0 xs3 f hf 1792 Gen.inb_S512x5120_S512x256_0_1792
  · exact q_piece arg8 harg8 arg11 harg11 xs0 xs3 f hf 1536 Gen.inb_S512x5120_S512x256_0_1536
  · exact q_piece arg8 harg8 arg11 harg11 xs0 xs3 f hf 1280 Gen.inb_S512x5120_S512x256_0_1280
  · exact q_piece arg8 harg8 arg11 harg11 xs0 xs3 f hf 1024 Gen.inb_S512x5120_S512x256_0_1024
  · exact q_piece arg8 harg8 arg11 harg11 xs0 xs3 f hf 768 Gen.inb_S512x5120_S512x256_0_768
  · exact q_piece arg8 harg8 arg11 harg11 xs0 xs3 f hf 512 Gen.inb_S512x5120_S512x256_0_512
  · exact q_piece arg8 harg8 arg11 harg11 xs0 xs3 f hf 256 Gen.inb_S512x5120_S512x256_0_256
  · exact q_piece arg8 harg8 arg11 harg11 xs0 xs3 f hf 0 Gen.inb_S512x5120_S512x256_0_0

/-- Its pieces cover the codes window. -/
theorem cB_cover (hb0 : ¬cond0_0 i) (hb1 : cond0_1 i) (y6 : Vec Ideal S1x1x512 .f32) (y : S512x5120.Idx) : ∃ p ∈ (kernelRun0_B (F := Ideal) c i arg1 harg1 arg2 harg2 arg3 harg3 arg4 harg4 arg5 harg5 arg6 harg6 arg7 harg7 arg8 harg8 arg9 harg9 arg10 harg10 arg11 harg11 hb0 hb1 x0 x1 x2 x3 x4 xs0 xs3 y6).val, y ∈ p.1.set :=
  View.cover_of_tiled _ ![512, 256] (by sl_kernel_rfl) y

/-- After case B the codes window reads the codes of the tile held before. -/
theorem cB_read (hb0 : ¬cond0_0 i) (hb1 : cond0_1 i) (y6 : Vec Ideal S1x1x512 .f32) (f : Fin 512 → EReal) (hf : ∀ r l, xs3 (ix2 r l) = f r) (g : arg6.view.ty.Contents (Elt Ideal)) : arg6.view.read (Elt Ideal) (arg6.view.writes (Elt Ideal) g (kernelRun0_B (F := Ideal) c i arg1 harg1 arg2 harg2 arg3 harg3 arg4 harg4 arg5 harg5 arg6 harg6 arg7 harg7 arg8 harg8 arg9 harg9 arg10 harg10 arg11 harg11 hb0 hb1 x0 x1 x2 x3 x4 xs0 xs3 y6).val) = cdT xs0 f :=
  funext fun y => View.read_writes_apply_of_pieces arg6.view g (cdT xs0 f) _ (cB_pieces c i arg1 harg1 arg2 harg2 arg3 harg3 arg4 harg4 arg5 harg5 arg6 harg6 arg7 harg7 arg8 harg8 arg9 harg9 arg10 harg10 arg11 harg11 x0 x1 x2 x3 x4 xs0 xs3 hb0 hb1 y6 f hf) y (cB_cover c i arg1 harg1 arg2 harg2 arg3 harg3 arg4 harg4 arg5 harg5 arg6 harg6 arg7 harg7 arg8 harg8 arg9 harg9 arg10 harg10 arg11 harg11 x0 x1 x2 x3 x4 xs0 xs3 hb0 hb1 y6 y)

end A

end Cert.KernelIdeal.Hand

end
-- ==== Proof.KI.Dat.lean ====
/-
  The idealized kernel's run, point by point: what each grid point leaves in the output windows and in the scratch buffers, as the
  codes, scales and GELU tile of its blocks, and the launch built on it.
-/
module

public import proofs.«01_k».proof.Proof.KI.ValsG
public import proofs.«01_k».proof.Proof.KI.ValsM
public import proofs.«01_k».proof.Proof.KI.ValsQ
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the run leaves, point by point -/

/-- The GELU tile of point `t`'s blocks. -/
def gB (c : Dev nD) (t : Fin cfg0.N) : Vec Ideal S512x5120 .f32 := gT (iblk m c 0 t) (iblk m c 1 t) (iblk m c 2 t) (iblk m c 3 t) (iblk m c 4 t)

/-- The codes of point `t`'s tile. -/
def cB (c : Dev nD) (t : Fin cfg0.N) : Vec Ideal S512x5120 .fp8e4m3 := cdT (gB m c t) (fun r => invS (tS (mxT (gB m c t) r)))

/-- The scales of point `t`'s tile. -/
def sB (c : Dev nD) (t : Fin cfg0.N) : Vec Ideal S1x1x512 .f32 := scT (gB m c t)

/-- What the body leaves in the two output windows at point `t`: the codes of the tile before, and the scales of the tile (of the
    last tile at the last point, which stores none). -/
def Rl (c : Dev nD) (w : Fin cfg0.W) (t : Fin cfg0.N) (X : (cfg0.win w).block.Idx → Elt Ideal (cfg0.win w).elt) : Prop :=
  match w, X with
  | ⟨5, _⟩, X => ∀ s : Fin cfg0.N, s.val + 1 = t.val → X = cB m c s
  | ⟨6, _⟩, X => ∀ s : Fin cfg0.N, s.val = min t.val 47 → X = sB m c s
  | _, _ => True

/-- The windows held to `Rl`: the two outputs. -/
def fgt0 : Fin cfg0.W → Bool := fun w => w.val == 5 || w.val == 6

/-- Between the points: the GELU scratch holds the tile before, the inverse-scale scratch that tile's inverse scales. -/
def phi (c : Dev nD) (t : Fin (cfg0.N + 1)) : sProp 𝕄 :=
  iprop(iprop((∃ d, ⌜∀ s : Fin cfg0.N, s.val + 1 = t.val → s.val < 48 → d = gB m c s⌝ ∗ owns (c : Thread nD τ) scM0_0 fullShare d) ∗ (∃ d, owns (c : Thread nD τ) scM0_1 fullShare d) ∗ (∃ d, owns (c : Thread nD τ) scM0_2 fullShare d) ∗ (∃ d, ⌜∀ s : Fin cfg0.N, s.val + 1 = t.val → s.val < 48 → d = invT (gB m c s)⌝ ∗ owns (c : Thread nD τ) scM0_3 fullShare d)) ∗ (∃ r, prngReg c r))

/-- The proof data: inputs at their blocks, the outputs held to `Rl` beside it. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ := phi m c
  q _ := fullShare
  owed _ := 0

/-- The arrays are the region-entry contents. -/
theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d

/-- At the last point the scale window still holds what the point before left: the last tile's scales. -/
theorem finds6 (c : Dev nD) (t : Fin cfg0.N) (ht : t.val = 48) (Y) (h : ((dat m c).toRRel fgt0 (Rl m c)).Finds 6 t Y) : Rl m c 6 t Y := by
  have hf : (cfg0.win 6).fetch t = false := Pipeline.Window.fetch_out _ rfl _
  have hfl : (cfg0.win 6).flush ⟨t.val - 1, Nat.lt_of_le_of_lt (Nat.sub_le _ _) t.isLt⟩ = false := by
    have : ∀ u : Fin cfg0.N, u.val = 47 → (cfg0.win 6).flush u = false := by decide +kernel
    exact this _ (by show t.val - 1 = 47; omega)
  rcases (Pipeline.RDat.finds_of_pos _ hf (by omega) Y).mp h with h | h
  · rw [hfl] at h; exact absurd h Bool.false_ne_true
  · have h' := Pipeline.Dat.toRRel_leaves (dat m c) (fgt := fgt0) (Rl := Rl m c) (w := 6) rfl h
    intro s hs
    exact h' s (by show s.val = min (t.val - 1) 47; omega)

/-! ## The body obligation -/

/-- What the body is called with at point `t`, the windows one by one, -/
def bodyPre (c : Dev nD) (t : Fin cfg0.N) : sProp 𝕄 :=
  iprop(phi m c t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ Y, ⌜((dat m c).toRRel fgt0 (Rl m c)).Finds 5 t Y⌝ ∗ owns (c : Thread nD τ) (ms0_5 t) fullShare Y)
    ∗ (∃ Y, ⌜((dat m c).toRRel fgt0 (Rl m c)).Finds 6 t Y⌝ ∗ owns (c : Thread nD τ) (ms0_6 t) fullShare Y))

/-- and what it returns. -/
def bodyPost (c : Dev nD) (t : Fin cfg0.N) : sProp 𝕄 :=
  iprop(phi m c t.succ ∗ (dat m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 1600000 in
/-- The body at any point, by the run of the point's case. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dat m c).owesAt () t.succ = (dat m c).owesAt () t.castSucc from rfl]
  unfold phi
  have hN : t.val < 49 := lt_of_lt_of_eq t.isLt (show cfg0.N = 49 from N_0)
  by_cases h0 : t.val < 48
  · have h1 : ¬ t.val % 49 = 48 := by omega
    iintro ⟨⟨⟨⟨%xs0, %hx0, HS0⟩, HS1, HS2, ⟨%xs3, %hx3, HS3⟩⟩, Hg⟩, Ho, ⟨%d0, H0⟩, ⟨%d1, H1⟩, ⟨%d2, H2⟩, ⟨%d3, H3⟩, ⟨%d4, H4⟩, ⟨%d5, -, H5⟩, ⟨%d6, -, H6⟩⟩
    iapply ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t) (iblk m c 2 t) (iblk m c 3 t) (iblk m c 4 t) xs0 xs3).2.2.2.2.2.property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%f5, H5⟩, ⟨%f6, H6⟩, ⟨%g0, HS0⟩, ⟨%g1, HS1⟩, ⟨%g2, HS2⟩, ⟨%g3, HS3⟩⟩
    isplitl [HS0 HS1 HS2 HS3 Hg]
    · isplitl [HS0 HS1 HS2 HS3]
      · isplitl [HS0]
        · iexists _; isplitr; swap
          · unfold owns; iexists _; isplitr; swap; · iexact HS0
            ipureintro; rfl
          ipureintro
          intro s hs _
          obtain rfl : s = t := Fin.ext (by have : s.val + 1 = t.val + 1 := hs; omega)
          exact gA_read c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole cc0_scratch0) scM0_1 (Memref.isWhole_whole cc0_scratch1) scM0_2 (Memref.isWhole_whole cc0_scratch2) scM0_3 (Memref.isWhole_whole cc0_scratch3) _ _ (iblk m c 0 s) (iblk m c 1 s) (iblk m c 2 s) (iblk m c 3 s) (iblk m c 4 s) xs0 xs3 _
        isplitl [HS1]
        · iexists _; unfold owns; iexists _; isplitr; swap; · iexact HS1
          ipureintro; rfl
        isplitl [HS2]
        · iexists _; unfold owns; iexists _; isplitr; swap; · iexact HS2
          ipureintro; rfl
        iexists _; isplitr; swap
        · unfold owns; iexists _; isplitr; swap; · iexact HS3
          ipureintro; rfl
        ipureintro
        intro s hs _
        obtain rfl : s = t := Fin.ext (by have : s.val + 1 = t.val + 1 := hs; omega)
        exact iA_read c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole cc0_scratch0) scM0_1 (Memref.isWhole_whole cc0_scratch1) scM0_2 (Memref.isWhole_whole cc0_scratch2) scM0_3 (Memref.isWhole_whole cc0_scratch3) _ _ (iblk m c 0 s) (iblk m c 1 s) (iblk m c 2 s) (iblk m c 3 s) (iblk m c 4 s) xs0 xs3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap
      · unfold owns; iexists _; isplitr; swap; · iexact H5
        ipureintro; rfl
      ipureintro
      intro s hs
      obtain rfl := hx0 s hs (by omega)
      obtain rfl := hx3 s hs (by omega)
      exact cA_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) _ _ (iblk m c 0 t) (iblk m c 1 t) (iblk m c 2 t) (iblk m c 3 t) (iblk m c 4 t) _ _ _ (fun _ _ => rfl) _
    iexists _; isplitr; swap
    · unfold owns; iexists _; isplitr; swap; · iexact H6
      ipureintro; rfl
    ipureintro
    intro s hs
    obtain rfl : s = t := Fin.ext (by omega)
    exact sA_read c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole cc0_scratch0) scM0_1 (Memref.isWhole_whole cc0_scratch1) scM0_2 (Memref.isWhole_whole cc0_scratch2) scM0_3 (Memref.isWhole_whole cc0_scratch3) _ _ (iblk m c 0 s) (iblk m c 1 s) (iblk m c 2 s) (iblk m c 3 s) (iblk m c 4 s) xs0 xs3 _
  · have h1 : t.val % 49 = 48 := by omega
    iintro ⟨⟨⟨⟨%xs0, %hx0, HS0⟩, HS1, HS2, ⟨%xs3, %hx3, HS3⟩⟩, Hg⟩, Ho, ⟨%d0, H0⟩, ⟨%d1, H1⟩, ⟨%d2, H2⟩, ⟨%d3, H3⟩, ⟨%d4, H4⟩, ⟨%d5, -, H5⟩, ⟨%d6, %h6, H6⟩⟩
    iapply ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (iblk m c 2 t) (iblk m c 3 t) (iblk m c 4 t) xs0 xs3 d6).property Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    isplitl [HS3]; · iexact HS3
    iintro ⟨H0, H1, H2, H3, H4, ⟨%f5, H5⟩, H6, HS0, HS1, HS2, HS3⟩
    isplitl [HS0 HS1 HS2 HS3 Hg]
    · isplitl [HS0 HS1 HS2 HS3]
      · isplitl [HS0]
        · iexists _; isplitr; swap; · iexact HS0
          ipureintro
          intro s hs h48
          have : s.val + 1 = t.val + 1 := hs
          omega
        isplitl [HS1]; · iexact HS1
        isplitl [HS2]; · iexact HS2
        iexists _; isplitr; swap; · iexact HS3
        ipureintro
        intro s hs h48
        have : s.val + 1 = t.val + 1 := hs
        omega
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap
      · unfold owns; iexists _; isplitr; swap; · iexact H5
        ipureintro; rfl
      ipureintro
      intro s hs
      obtain rfl := hx0 s hs (by omega)
      obtain rfl := hx3 s hs (by omega)
      exact cB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (iblk m c 4 t) _ _ _ _ d6 _ (fun _ _ => rfl) _
    iexists _; isplitr; swap; · iexact H6
    ipureintro
    exact finds6 m c t (by omega) _ h6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, the outputs held to `Rl`. -/
theorem body_obligation (c : Dev nD) : Pipeline.BodyObligationRel (dat m c) (defs₀ (F := Ideal)) Variants.none () Set.univ fgt0 (Rl m c) := fun t => by
  rw [bigSep_W0, bigSep_W0, defs₀_row]
  exact triple_restated (sound_body m c t) rfl .rfl fun _ => .rfl

/-! ## The run and the frame -/

/-- The relational proof data of the run. -/
abbrev rdat (c : Dev nD) : Pipeline.RDat τ (Elt Ideal) Unit ℕ (UR sig nD τ) ℕ cfg0 c := (dat m c).toRRel fgt0 (Rl m c)

/-- The scratch may hold anything at the first point. -/
theorem phi_in (c : Dev nD) : (Pipeline.ΦA spec0 c : sProp 𝕄) ⊢ phi m c 0 := by
  rw [PhiA0_eq]; unfold phi
  iintro ⟨⟨⟨%d0, H0⟩, H1, H2, ⟨%d3, H3⟩⟩, Hg⟩
  isplitl [H0 H1 H2 H3]
  · isplitl [H0]
    · iexists d0; isplitr; swap; · iexact H0
      ipureintro
      intro s hs _
      exact absurd hs (Nat.succ_ne_zero _)
    isplitl [H1]; · iexact H1
    isplitl [H2]; · iexact H2
    iexists d3; isplitr; swap; · iexact H3
    ipureintro
    intro s hs _
    exact absurd hs (Nat.succ_ne_zero _)
  iexact Hg

/-- What it holds after the last point is dropped. -/
theorem phi_out (c : Dev nD) (t : Fin (cfg0.N + 1)) : phi m c t ⊢ (Pipeline.ΦA spec0 c : sProp 𝕄) := by
  rw [PhiA0_eq]; unfold phi
  iintro ⟨⟨⟨%d0, -, H0⟩, H1, H2, ⟨%d3, -, H3⟩⟩, Hg⟩
  isplitl [H0 H1 H2 H3]
  · isplitl [H0]; · iexists d0; iexact H0
    isplitl [H1]; · iexact H1
    isplitl [H2]; · iexact H2
    iexists d3; iexact H3
  iexact Hg

set_option backward.isDefEq.respectTransparency.types false in
/-- The launch: every execution terminates with the arrays as the proof data says and every semaphore at zero. -/
theorem run_main_quiescent : θ_run defs (onTc (τ := τ) (main (F := Ideal))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := phi_in m) (hout := fun c => phi_out m c _)

end Cert.KernelIdeal.Hand

end
-- ==== Proof.KI.Final.lean ====
/-
  The kernel's result arrays, as formulas of the arrays the launch is entered with. The relational run leaves each flushed block at
  the tile's codes or scales; the blocks cover the arrays, so each array is one function of its index. Also the frame: the arguments
  unchanged, every semaphore at zero.
-/
module

public import proofs.«01_k».proof.Proof.KI.Dat
public import Idealize.ShloMosaic.Lib.Pipeline.ArrRel
public import Idealize.ShloMosaic.Lib.Pipeline.Value
public import Idealize.ShloMosaic.Lib.Quiescent

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The formulas -/

/-- Row `r` of row tile `s`. -/
abbrev rowOf (s : ℕ) (hs : s < 48) (r : Fin 512) : Fin 24576 := ⟨512 * s + r.val, by omega⟩

/-- The GELU matrix of the whole arrays. -/
def gW (x0 : Vec Ideal S24576x1280 .fp8e4m3) (x1 : Vec Ideal S48x1x512 .f32) (x2 : Vec Ideal S5120x1280 .fp8e4m3) (x3 : Vec Ideal S1x5120 .f32)
    (x4 : Vec Ideal S1x5120 .bf16) (R : Fin 24576) (C : Fin 5120) : EReal :=
  gS (zS (∑ k : Fin 1280, x0 (ix2 R k) * x2 (ix2 C k)) (x1 (ix3 ⟨R.val / 512, by omega⟩ 0 ⟨R.val % 512, by omega⟩)) (x3 (ix2 0 C)) (x4 (ix2 0 C)))

/-- A row's largest magnitude. -/
def mxW (g : Fin 24576 → Fin 5120 → EReal) (R : Fin 24576) : EReal := Finset.univ.sup fun c : Fin 5120 => absE (g R c)

/-- The codes array. -/
def cW (g : Fin 24576 → Fin 5120 → EReal) : Vec Ideal S24576x5120 .fp8e4m3 := fun y => qS (g (y 0) (y 1)) (invS (tS (mxW g (y 0))))

/-- The scales array. -/
def sW (g : Fin 24576 → Fin 5120 → EReal) : Vec Ideal S48x1x512 .f32 := fun y => scS (tS (mxW g (rowOf (y 0).val (y 0).isLt (y 2))))

/-! ## The blocks of the inputs -/

theorem ix0 : ∀ t : Fin cfg0.N, win0_0.index t 0 = min t.val 47 ∧ win0_0.index t 1 = 0 :=
  (by decide +kernel : ∀ t : Fin grid0.N, win0_0.index t 0 = min t.val 47 ∧ win0_0.index t 1 = 0)
theorem ix1 : ∀ t : Fin cfg0.N, win0_1.index t 0 = min t.val 47 ∧ win0_1.index t 1 = 0 ∧ win0_1.index t 2 = 0 :=
  (by decide +kernel : ∀ t : Fin grid0.N, win0_1.index t 0 = min t.val 47 ∧ win0_1.index t 1 = 0 ∧ win0_1.index t 2 = 0)
theorem ixc2 : ∀ t : Fin cfg0.N, win0_2.index t 0 = 0 ∧ win0_2.index t 1 = 0 :=
  (by decide +kernel : ∀ t : Fin grid0.N, win0_2.index t 0 = 0 ∧ win0_2.index t 1 = 0)
theorem ixc3 : ∀ t : Fin cfg0.N, win0_3.index t 0 = 0 ∧ win0_3.index t 1 = 0 :=
  (by decide +kernel : ∀ t : Fin grid0.N, win0_3.index t 0 = 0 ∧ win0_3.index t 1 = 0)
theorem ixc4 : ∀ t : Fin cfg0.N, win0_4.index t 0 = 0 ∧ win0_4.index t 1 = 0 :=
  (by decide +kernel : ∀ t : Fin grid0.N, win0_4.index t 0 = 0 ∧ win0_4.index t 1 = 0)
theorem ixo5 : ∀ t : Fin cfg0.N, win0_5.index t 0 = t.val - 1 ∧ win0_5.index t 1 = 0 :=
  (by decide +kernel : ∀ t : Fin grid0.N, win0_5.index t 0 = t.val - 1 ∧ win0_5.index t 1 = 0)
theorem ixo6 : ∀ t : Fin cfg0.N, win0_6.index t 0 = min t.val 47 ∧ win0_6.index t 1 = 0 ∧ win0_6.index t 2 = 0 :=
  (by decide +kernel : ∀ t : Fin grid0.N, win0_6.index t 0 = min t.val 47 ∧ win0_6.index t 1 = 0 ∧ win0_6.index t 2 = 0)
theorem flush5 : ∀ t : Fin cfg0.N, (cfg0.win 5).flush t = true ↔ 1 ≤ t.val :=
  (by decide +kernel : ∀ t : Fin grid0.N, win0_5.flush t = true ↔ 1 ≤ t.val)
theorem flush6 : ∀ t : Fin cfg0.N, (cfg0.win 6).flush t = true ↔ t.val ≠ 47 :=
  (by decide +kernel : ∀ t : Fin grid0.N, win0_6.flush t = true ↔ t.val ≠ 47)

/-- Tile `s` of `x`. -/
theorem blk0 (c : Dev nD) (s : Fin cfg0.N) (hs : s.val < 48) (r : Fin 512) (k : Fin 1280) :
    (iblk m c 0 s : Vec Ideal S512x1280 .fp8e4m3) (ix2 r k) = (V m c main_v0 : Vec Ideal S24576x1280 .fp8e4m3) (ix2 (rowOf s.val hs r) k) := by
  unfold iblk
  rw [View.read_apply]
  show V m c main_v0 _ = V m c main_v0 _
  congr 1
  funext a
  apply Fin.ext
  have hi := ix0 s
  match a with
  | ⟨0, _⟩ => show win0_0.index s 0 * 512 + 1 * r.val = 512 * s.val + r.val; rw [hi.1]; omega
  | ⟨1, _⟩ => show win0_0.index s 1 * 1280 + 1 * k.val = k.val; rw [hi.2]; omega

/-- Tile `s` of the row scales. -/
theorem blk1 (c : Dev nD) (s : Fin cfg0.N) (hs : s.val < 48) (r : Fin 512) :
    (iblk m c 1 s : Vec Ideal S1x1x512 .f32) (ix3 0 0 r) = (V m c main_v1 : Vec Ideal S48x1x512 .f32) (ix3 ⟨s.val, hs⟩ 0 r) := by
  unfold iblk
  rw [View.read_apply]
  show V m c main_v1 _ = V m c main_v1 _
  congr 1
  funext a
  apply Fin.ext
  have hi := ix1 s
  match a with
  | ⟨0, _⟩ => show win0_1.index s 0 * 1 + 1 * 0 = s.val; rw [hi.1]; omega
  | ⟨1, _⟩ => show win0_1.index s 1 * 1 + 1 * 0 = 0; rw [hi.2.1]
  | ⟨2, _⟩ => show win0_1.index s 2 * 512 + 1 * r.val = r.val; rw [hi.2.2]; omega

/-- The weights, whole. -/
theorem blk2 (c : Dev nD) (s : Fin cfg0.N) (l : Fin 5120) (k : Fin 1280) :
    (iblk m c 2 s : Vec Ideal S5120x1280 .fp8e4m3) (ix2 l k) = (V m c main_arg2 : Vec Ideal S5120x1280 .fp8e4m3) (ix2 l k) := by
  unfold iblk
  rw [View.read_apply]
  show V m c main_arg2 _ = V m c main_arg2 _
  congr 1
  funext a
  apply Fin.ext
  have hi := ixc2 s
  match a with
  | ⟨0, _⟩ => show win0_2.index s 0 * 5120 + 1 * l.val = l.val; rw [hi.1]; omega
  | ⟨1, _⟩ => show win0_2.index s 1 * 1280 + 1 * k.val = k.val; rw [hi.2]; omega

/-- The column scales, whole. -/
theorem blk3 (c : Dev nD) (s : Fin cfg0.N) (l : Fin 5120) :
    (iblk m c 3 s : Vec Ideal S1x5120 .f32) (ix2 0 l) = (V m c main_v2 : Vec Ideal S1x5120 .f32) (ix2 0 l) := by
  unfold iblk
  rw [View.read_apply]
  show V m c main_v2 _ = V m c main_v2 _
  congr 1
  funext a
  apply Fin.ext
  have hi := ixc3 s
  match a with
  | ⟨0, _⟩ => show win0_3.index s 0 * 1 + 1 * 0 = 0; rw [hi.1]
  | ⟨1, _⟩ => show win0_3.index s 1 * 5120 + 1 * l.val = l.val; rw [hi.2]; omega

/-- The bias, whole. -/
theorem blk4 (c : Dev nD) (s : Fin cfg0.N) (l : Fin 5120) :
    (iblk m c 4 s : Vec Ideal S1x5120 .bf16) (ix2 0 l) = (V m c main_v3 : Vec Ideal S1x5120 .bf16) (ix2 0 l) := by
  unfold iblk
  rw [View.read_apply]
  show V m c main_v3 _ = V m c main_v3 _
  congr 1
  funext a
  apply Fin.ext
  have hi := ixc4 s
  match a with
  | ⟨0, _⟩ => show win0_4.index s 0 * 1 + 1 * 0 = 0; rw [hi.1]
  | ⟨1, _⟩ => show win0_4.index s 1 * 5120 + 1 * l.val = l.val; rw [hi.2]; omega

/-- The GELU matrix of the arrays the launch is entered with. -/
def gM (c : Dev nD) : Fin 24576 → Fin 5120 → EReal := gW (V m c main_v0) (V m c main_v1) (V m c main_arg2) (V m c main_v2) (V m c main_v3)

/-- A tile's GELU value from blocks that are a tile of the arrays. -/
theorem gT_eq_gW {x0 : Vec Ideal S512x1280 .fp8e4m3} {x1 : Vec Ideal S1x1x512 .f32} {x2 : Vec Ideal S5120x1280 .fp8e4m3} {x3 : Vec Ideal S1x5120 .f32}
    {x4 : Vec Ideal S1x5120 .bf16} {X0 : Vec Ideal S24576x1280 .fp8e4m3} {X1 : Vec Ideal S48x1x512 .f32} {X2 : Vec Ideal S5120x1280 .fp8e4m3}
    {X3 : Vec Ideal S1x5120 .f32} {X4 : Vec Ideal S1x5120 .bf16} (s : ℕ) (hs : s < 48) (r : Fin 512) (l : Fin 5120)
    (h0 : ∀ k, x0 (ix2 r k) = X0 (ix2 (rowOf s hs r) k)) (h1 : x1 (ix3 0 0 r) = X1 (ix3 ⟨s, hs⟩ 0 r)) (h2 : ∀ k, x2 (ix2 l k) = X2 (ix2 l k))
    (h3 : x3 (ix2 0 l) = X3 (ix2 0 l)) (h4 : x4 (ix2 0 l) = X4 (ix2 0 l)) :
    gT x0 x1 x2 x3 x4 (ix2 r l) = gW X0 X1 X2 X3 X4 (rowOf s hs r) l := by
  unfold gT gW
  show gS (zS (∑ k : Fin 1280, x0 (ix2 r k) * x2 (ix2 l k)) (x1 (ix3 0 0 r)) (x3 (ix2 0 l)) (x4 (ix2 0 l))) = _
  have e1 : (⟨(rowOf s hs r).val / 512, by omega⟩ : Fin 48) = ⟨s, hs⟩ := Fin.ext (by show (512 * s + r.val) / 512 = s; omega)
  have e2 : (⟨(rowOf s hs r).val % 512, by omega⟩ : Fin 512) = r := Fin.ext (by show (512 * s + r.val) % 512 = r.val; omega)
  rw [h1, h3, h4, e1, e2]
  simp only [h0, h2]

/-- A tile's GELU values are the matrix's at the tile's rows. -/
theorem gB_row (c : Dev nD) (s : Fin cfg0.N) (hs : s.val < 48) (r : Fin 512) (l : Fin 5120) :
    gB m c s (ix2 r l) = gM m c (rowOf s.val hs r) l :=
  gT_eq_gW s.val hs r l (blk0 m c s hs r) (blk1 m c s hs r) (blk2 m c s l) (blk3 m c s l) (blk4 m c s l)

/-- So a tile's row maximum is the matrix row's. -/
theorem mxT_row (c : Dev nD) (s : Fin cfg0.N) (hs : s.val < 48) (r : Fin 512) : mxT (gB m c s) r = mxW (gM m c) (rowOf s.val hs r) := by
  unfold mxT mxW
  simp only [gB_row m c s hs]

/-- A tile's codes. -/
theorem cB_row (c : Dev nD) (s : Fin cfg0.N) (hs : s.val < 48) (r : Fin 512) (l : Fin 5120) :
    cB m c s (ix2 r l) = qS (gM m c (rowOf s.val hs r) l) (invS (tS (mxW (gM m c) (rowOf s.val hs r)))) := by
  rw [← mxT_row, ← gB_row]
  rfl

/-- A tile's scales. -/
theorem sB_row (c : Dev nD) (s : Fin cfg0.N) (hs : s.val < 48) (a b : Fin 1) (r : Fin 512) :
    sB m c s (ix3 a b r) = scS (tS (mxW (gM m c) (rowOf s.val hs r))) := by
  rw [← mxT_row]
  rfl

/-- The codes array at an index of known coordinates. -/
theorem cW_at {g : Fin 24576 → Fin 5120 → EReal} {j : S24576x5120.Idx} {R : Fin 24576} {C : Fin 5120} (h0 : (j 0).val = R.val) (h1 : (j 1).val = C.val) :
    cW g j = qS (g R C) (invS (tS (mxW g R))) := by
  obtain rfl : j 0 = R := Fin.ext h0
  obtain rfl : j 1 = C := Fin.ext h1
  rfl

/-- The scales array at an index of known coordinates. -/
theorem sW_at {g : Fin 24576 → Fin 5120 → EReal} {j : S48x1x512.Idx} {R : Fin 24576} (h : 512 * (j 0).val + (j 2).val = R.val) :
    sW g j = scS (tS (mxW g R)) := by
  obtain rfl : rowOf (j 0).val (j 0).isLt (j 2) = R := Fin.ext h
  rfl

/-! ## The result arrays -/

/-- Any exact data that leaves each flushed codes block at its tile's codes ends with the codes array. -/
theorem codes_of (c : Dev nD) (d : Dat τ (Elt Ideal) Unit ℕ (UR sig nD τ) ℕ cfg0 c)
    (h : ∀ t : Fin cfg0.N, ∀ s : Fin cfg0.N, s.val + 1 = t.val → d.after 5 t = cB m c s) : d.arrAt 5 cfg0.N = cW (gM m c) := by
  have hN : cfg0.N = 49 := N_0
  refine d.arrAt_eq_of_cover 5 (cW (gM m c)) (fun t hf => ?_) fun i => ?_
  · have ht := (flush5 t).mp hf
    have htN := t.isLt
    have hs : t.val - 1 < 48 := by omega
    show (cfg0.win 5).cut (grid0.coords t) (d.after 5 t) = _
    rw [h t ⟨t.val - 1, by omega⟩ (by show t.val - 1 + 1 = t.val; omega)]
    funext y
    rw [View.read_apply]
    have e : ∀ a, ((win0_5.rect t).emb y a : ℕ) = win0_5.index t a * S512x5120.size a + (y a : ℕ) := fun a => win0_5.rect_emb_val t y a
    refine ((congrArg (cB m c ⟨t.val - 1, by omega⟩) (eq_ix2 (n0 := 512) (n1 := 5120) y)).trans (cB_row m c ⟨t.val - 1, by omega⟩ hs (y 0) (y 1))).trans (cW_at ?_ ?_).symm
    · refine (e 0).trans ?_
      rw [(ixo5 t).1]; show (t.val - 1) * 512 + (y 0).val = 512 * (t.val - 1) + (y 0).val; omega
    · refine (e 1).trans ?_
      rw [(ixo5 t).2]; show 0 * 5120 + (y 1).val = (y 1).val; omega
  · have h0 : (i 0 : Nat) < 24576 := (i 0).isLt
    have h1 : (i 1 : Nat) < 5120 := (i 1).isLt
    have hl : (i 0 : Nat) / 512 + 1 < cfg0.N := by omega
    refine ⟨⟨(i 0 : Nat) / 512 + 1, hl⟩, (flush5 _).mpr (Nat.le_add_left 1 _), ?_⟩
    show i ∈ ((View.whole main_v4_0).slice (win0_5.rect ⟨(i 0 : Nat) / 512 + 1, hl⟩)).set
    rw [View.set_slice_whole, Rect.mem_set_unit]
    have hi := ixo5 ⟨(i 0 : Nat) / 512 + 1, hl⟩
    intro a
    match a with
    | ⟨0, _⟩ => show win0_5.index _ 0 * 512 ≤ (i 0 : Nat) ∧ (i 0 : Nat) < win0_5.index _ 0 * 512 + 512
                rw [hi.1]; show ((i 0 : Nat) / 512 + 1 - 1) * 512 ≤ (i 0 : Nat) ∧ (i 0 : Nat) < ((i 0 : Nat) / 512 + 1 - 1) * 512 + 512; omega
    | ⟨1, _⟩ => show win0_5.index _ 1 * 5120 ≤ (i 1 : Nat) ∧ (i 1 : Nat) < win0_5.index _ 1 * 5120 + 5120
                rw [hi.2]; omega

/-- Any exact data that leaves each flushed scales block at its tile's scales ends with the scales array. -/
theorem scales_of (c : Dev nD) (d : Dat τ (Elt Ideal) Unit ℕ (UR sig nD τ) ℕ cfg0 c)
    (h : ∀ t : Fin cfg0.N, (cfg0.win 6).flush t = true → ∀ s : Fin cfg0.N, s.val = min t.val 47 → d.after 6 t = sB m c s) :
    d.arrAt 6 cfg0.N = sW (gM m c) := by
  have hN : cfg0.N = 49 := N_0
  refine d.arrAt_eq_of_cover 6 (sW (gM m c)) (fun t hf => ?_) fun i => ?_
  · have htN := t.isLt
    have hs : min t.val 47 < 48 := by omega
    show (cfg0.win 6).cut (grid0.coords t) (d.after 6 t) = _
    rw [h t hf ⟨min t.val 47, by omega⟩ rfl]
    funext y
    rw [View.read_apply]
    have y0 : (y 0 : ℕ) < 1 := (y 0).isLt
    have e : ∀ a, ((win0_6.rect t).emb y a : ℕ) = win0_6.index t a * S1x1x512.size a + (y a : ℕ) := fun a => win0_6.rect_emb_val t y a
    refine ((congrArg (sB m c ⟨min t.val 47, by omega⟩) (eq_ix3 (n0 := 1) (n1 := 1) (n2 := 512) y)).trans (sB_row m c ⟨min t.val 47, by omega⟩ hs (y 0) (y 1) (y 2))).trans (sW_at ?_).symm
    have e0 : ((win0_6.rect t).emb y 0 : ℕ) = min t.val 47 := by
      refine (e 0).trans ?_
      rw [(ixo6 t).1]; show min t.val 47 * 1 + (y 0).val = min t.val 47; omega
    have e2 : ((win0_6.rect t).emb y 2 : ℕ) = (y 2).val := by
      refine (e 2).trans ?_
      rw [(ixo6 t).2.2]; show 0 * 512 + (y 2).val = (y 2).val; omega
    show 512 * ((win0_6.rect t).emb y 0 : ℕ) + ((win0_6.rect t).emb y 2 : ℕ) = 512 * (min t.val 47) + (y 2).val
    rw [e0, e2]
  · have h0 : (i 0 : Nat) < 48 := (i 0).isLt
    have h1 : (i 1 : Nat) < 1 := (i 1).isLt
    have h2 : (i 2 : Nat) < 512 := (i 2).isLt
    let tv : ℕ := if (i 0 : Nat) = 47 then 48 else (i 0 : Nat)
    have htv : tv ≠ 47 ∧ min tv 47 = (i 0 : Nat) ∧ tv < 49 := by
      show (if (i 0 : Nat) = 47 then 48 else (i 0 : Nat)) ≠ 47 ∧ min (if (i 0 : Nat) = 47 then 48 else (i 0 : Nat)) 47 = (i 0 : Nat) ∧ (if (i 0 : Nat) = 47 then 48 else (i 0 : Nat)) < 49
      split <;> omega
    have hl : tv < cfg0.N := by omega
    refine ⟨⟨tv, hl⟩, (flush6 _).mpr htv.1, ?_⟩
    show i ∈ ((View.whole main_v4_1).slice (win0_6.rect ⟨tv, hl⟩)).set
    rw [View.set_slice_whole, Rect.mem_set_unit]
    have hi := ixo6 ⟨tv, hl⟩
    intro a
    match a with
    | ⟨0, _⟩ => show win0_6.index _ 0 * 1 ≤ (i 0 : Nat) ∧ (i 0 : Nat) < win0_6.index _ 0 * 1 + 1
                rw [hi.1]; show min tv 47 * 1 ≤ (i 0 : Nat) ∧ (i 0 : Nat) < min tv 47 * 1 + 1; omega
    | ⟨1, _⟩ => show win0_6.index _ 1 * 1 ≤ (i 1 : Nat) ∧ (i 1 : Nat) < win0_6.index _ 1 * 1 + 1
                rw [hi.2.1]; omega
    | ⟨2, _⟩ => show win0_6.index _ 2 * 512 ≤ (i 2 : Nat) ∧ (i 2 : Nat) < win0_6.index _ 2 * 512 + 512
                rw [hi.2.2]; omega

/-- After the run the two result arrays hold the formulas. -/
theorem results (r : PUnit × MemSt nD τ sig (Elt Ideal)) (h : Pipeline.RDat.FramePost (cfgs 0) (rdat m) (V m) r) (c : Dev nD) :
    r.2.mem ((c : Thread nD τ).loc main_v4_0) = cW (gM m c) ∧ r.2.mem ((c : Thread nD τ).loc main_v4_1) = sW (gM m c) := by
  obtain ⟨after, hl, hm⟩ := Pipeline.RDat.FramePost.exists_exact h c
  refine ⟨(hm 5).trans (codes_of m c _ fun t s hs => ?_), (hm 6).trans (scales_of m c _ fun t hf s hs => ?_)⟩
  · have hf : (cfg0.win 5).flush t = true := (flush5 t).mpr (by omega)
    have := Dat.toRRel_leaves (dat m c) (fgt := fgt0) (Rl := Rl m c) (w := 5) rfl (hl 5 t hf)
    exact this s hs
  · have := Dat.toRRel_leaves (dat m c) (fgt := fgt0) (Rl := Rl m c) (w := 6) rfl (hl 6 t hf)
    exact this s hs

/-! ## The frame -/

/-- The arguments are unchanged after the run. -/
theorem args (r : PUnit × MemSt nD τ sig (Elt Ideal)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame claim: the arguments unchanged, the semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args m r h.1, h.2⟩) (run_main_quiescent m ρ)

end Cert.KernelIdeal.Hand

end
-- ==== Proof.KI.Exp.lean ====
/-
  The exponent of the row scale. The kernel finds it by a binary search over the exponent field of a power of two; the reference
  takes the floor of a logarithm. At every extended real the two are one integer between -126 and 126, and the scale and its inverse
  are the powers of two of it.
-/
module

public import proofs.«01_k».proof.Proof.KI.Pay

@[expose] public section

noncomputable section

namespace Cert.KernelIdeal.Hand

open Idealize.ShloMosaic
open Cert.KernelIdeal

/-! ## Powers of two as bit patterns -/

/-- The fields of a pattern that is an exponent field alone. -/
theorem fields : ∀ k : Fin 256, ((BitVec.ofNat 32 k.val <<< 23).extractLsb' 31 1 == 1#1) = false ∧ ((BitVec.ofNat 32 k.val <<< 23).extractLsb' 23 8).toNat = k.val
    ∧ ((BitVec.ofNat 32 k.val <<< 23).extractLsb' 0 23).toNat = 0 := by decide +kernel

/-- The value with exponent field `k`. -/
def pw (k : ℕ) : EReal := Ideal.ofBits .f32 (BitVec.ofNat 32 k <<< 23)

theorem pw_zero : pw 0 = 0 := by
  obtain ⟨h1, h2, h3⟩ := fields 0
  simp only [pw, Ideal.ofBits, Ideal.ieee]
  simp

theorem pw_top : pw 255 = ⊤ := by
  have h := fields 255
  simp only [pw, Ideal.ofBits, Ideal.ieee]
  simp

/-- A pattern with zero sign, exponent field `k`, zero fraction is a power of two. -/
theorem ieee_of_fields (b : BitVec 32) (k : ℕ) (e1 : (b.extractLsb' 31 1 == 1#1) = false) (e2 : (b.extractLsb' 23 8).toNat = k)
    (e3 : (b.extractLsb' 0 23).toNat = 0) (h0 : 1 ≤ k) (h1 : k ≤ 254) : Ideal.ieee 8 23 b = (((2 : ℝ) ^ ((k : ℤ) - 127) : ℝ) : EReal) := by
  unfold Ideal.ieee
  simp only [Nat.reduceAdd, e1, e2, e3]
  rw [if_neg (by omega), if_neg (by omega)]
  congr 1
  have : ((k : ℤ) - (2 ^ (8 - 1) - 1) - (23 : ℕ)) = ((k : ℤ) - 127) + (-23) := by norm_num; ring
  rw [this, zpow_add₀ (by norm_num : (2 : ℝ) ≠ 0)]
  norm_num
  ring

theorem pw_mid (k : ℕ) (h0 : 1 ≤ k) (h1 : k ≤ 254) : pw k = (((2 : ℝ) ^ ((k : ℤ) - 127) : ℝ) : EReal) :=
  ieee_of_fields _ k (fields ⟨k, by omega⟩).1 (fields ⟨k, by omega⟩).2.1 (fields ⟨k, by omega⟩).2.2 h0 h1

/-- Field `k` and below are in order. -/
theorem pw_mono {j k : ℕ} (h : j ≤ k) (hk : k ≤ 255) : pw j ≤ pw k := by
  rcases Nat.eq_zero_or_pos j with rfl | hj
  · rw [pw_zero]
    rcases Nat.eq_zero_or_pos k with rfl | hk0
    · rw [pw_zero]
    by_cases hk' : k = 255
    · rw [hk', pw_top]; exact le_top
    · rw [pw_mid k hk0 (by omega)]
      exact EReal.coe_nonneg.mpr (by positivity)
  · by_cases hk' : k = 255
    · rw [hk', pw_top]; exact le_top
    · rw [pw_mid k (by omega) (by omega), pw_mid j hj (by omega), EReal.coe_le_coe_iff]
      exact zpow_le_zpow_right₀ (by norm_num) (by omega)

/-! ## The search -/

/-- What is known of the search after the steps above width `n`: the field is at or below `t` (or zero), and nothing `n` or more above it is. -/
def Inv (t : EReal) (k n : ℕ) : Prop := k + n ≤ 256 ∧ (k = 0 ∨ pw k ≤ t) ∧ ∀ j, k + n ≤ j → j ≤ 255 → ¬ pw j ≤ t

theorem step_inv {t : EReal} {k b : ℕ} (hb : 1 ≤ b) (h : Inv t k (2 * b)) :
    ∃ k', stepW t (BitVec.ofNat 32 k) (BitVec.ofNat 32 b) = BitVec.ofNat 32 k' ∧ Inv t k' b := by
  obtain ⟨h1, h2, h3⟩ := h
  have e : BitVec.ofNat 32 k + BitVec.ofNat 32 b = BitVec.ofNat 32 (k + b) := (BitVec.ofNat_add k b).symm
  unfold stepW
  rw [e]
  by_cases hp : pw (k + b) ≤ t
  · refine ⟨k + b, if_pos hp, by omega, Or.inr hp, fun j hj hj' => h3 j (by omega) hj'⟩
  · refine ⟨k, if_neg hp, by omega, h2, fun j hj hj' hc => hp (le_trans (pw_mono hj hj') hc)⟩

/-- The searched field: the largest at or below `t`, zero if there is none. -/
theorem srch_spec (t : EReal) : ∃ k : ℕ, srchW t = BitVec.ofNat 32 k ∧ Inv t k 1 := by
  have h0 : Inv t 0 (2 * 128) := ⟨by omega, Or.inl rfl, fun j h h' => by omega⟩
  obtain ⟨k1, e1, h1⟩ := step_inv (by omega) h0
  obtain ⟨k2, e2, h2⟩ := step_inv (b := 64) (by omega) h1
  obtain ⟨k3, e3, h3⟩ := step_inv (b := 32) (by omega) h2
  obtain ⟨k4, e4, h4⟩ := step_inv (b := 16) (by omega) h3
  obtain ⟨k5, e5, h5⟩ := step_inv (b := 8) (by omega) h4
  obtain ⟨k6, e6, h6⟩ := step_inv (b := 4) (by omega) h5
  obtain ⟨k7, e7, h7⟩ := step_inv (b := 2) (by omega) h6
  obtain ⟨k8, e8, h8⟩ := step_inv (b := 1) (by omega) h7
  refine ⟨k8, ?_, h8⟩
  unfold srchW
  simp only [List.foldl_cons, List.foldl_nil]
  rw [show (0#32) = BitVec.ofNat 32 0 from rfl, e1, e2, e3, e4, e5, e6, e7, e8]

/-! ## The reference's exponent -/

/-- The reference's exponent: `⌊log t / log 2⌋ + 1` held between -126 and 126, zero at zero. -/
def eR (t : EReal) : EReal :=
  if t = 0 then 0 else min ((126 : ℝ) : EReal) (max ((-126 : ℝ) : EReal) (Ideal.liftRound Int.floor (Ideal.div (Ideal.log t) ((Real.log 2 : ℝ) : EReal)) + 1))

theorem ln2_pos : 0 < Real.log 2 := Real.log_pos (by norm_num)

theorem div_ln2 (x : EReal) : Ideal.div x ((Real.log 2 : ℝ) : EReal) = x * (((Real.log 2)⁻¹ : ℝ) : EReal) := by
  unfold Ideal.div
  rw [if_neg (by exact_mod_cast ln2_pos.ne'), ← EReal.coe_inv]

/-- The clamp of an integer, as an extended real. -/
theorem clamp_coe (n : ℤ) : min ((126 : ℝ) : EReal) (max ((-126 : ℝ) : EReal) (((n : ℝ) : EReal) + 1)) = (((min 126 (max (-126) (n + 1)) : ℤ) : ℝ) : EReal) := by
  push_cast
  rfl

/-- A power of two is at most a positive `r` exactly when its exponent is at most the floor of the logarithm. -/
theorem pow_le_iff (r : ℝ) (hr : 0 < r) (n : ℤ) : (2 : ℝ) ^ n ≤ r ↔ n ≤ ⌊Real.log r * (Real.log 2)⁻¹⌋ := by
  rw [Int.le_floor, ← div_eq_mul_inv, le_div_iff₀ ln2_pos, ← Real.log_zpow, Real.log_le_log_iff (by positivity) hr]

/-- The two exponents are one integer. -/
theorem exp_eq (t : EReal) : ∃ e : ℤ, -126 ≤ e ∧ e ≤ 126 ∧ eR t = ((e : ℝ) : EReal) ∧ expW t = BitVec.ofInt 32 e := by
  by_cases ht : t = 0
  · refine ⟨0, by omega, by omega, ?_, ?_⟩
    · unfold eR; rw [if_pos ht]; simp
    · unfold expW; rw [if_pos ht]; rfl
  obtain ⟨k, hk, h1, h2, h3⟩ := srch_spec t
  have key : ∀ e : ℤ, e = min (k : ℤ) 252 - 126 → expW t = BitVec.ofInt 32 e := by
    intro e he
    unfold expW
    rw [if_neg ht, hk, he]
    have : ∀ k : Fin 256, IntOp.subi (IntOp.minsi (BitVec.ofNat 32 k.val) 252#32) 126#32 = BitVec.ofInt 32 (min (k.val : ℤ) 252 - 126) := by decide +kernel
    exact this ⟨k, by omega⟩
  have fin : ∀ n : ℤ, min 126 (max (-126) (n + 1)) = min (k : ℤ) 252 - 126 →
      Ideal.liftRound Int.floor (Ideal.div (Ideal.log t) ((Real.log 2 : ℝ) : EReal)) = ((n : ℝ) : EReal) →
      ∃ e : ℤ, -126 ≤ e ∧ e ≤ 126 ∧ eR t = ((e : ℝ) : EReal) ∧ expW t = BitVec.ofInt 32 e := by
    intro n hn hl
    refine ⟨min 126 (max (-126) (n + 1)), by omega, by omega, ?_, key _ hn⟩
    unfold eR
    rw [if_neg ht, hl, clamp_coe]
  have neg : t < 0 → ∃ e : ℤ, -126 ≤ e ∧ e ≤ 126 ∧ eR t = ((e : ℝ) : EReal) ∧ expW t = BitVec.ofInt 32 e := by
    intro hneg
    have hk0 : k = 0 := by
      rcases h2 with h | h
      · exact h
      · exact absurd (lt_of_le_of_lt (le_trans (le_of_eq_of_le pw_zero.symm (pw_mono (Nat.zero_le k) (by omega))) h) hneg) (lt_irrefl _)
    have hlog : Ideal.log t = ⊥ := by
      induction t using EReal.rec with
      | bot => rfl
      | top => exact absurd hneg (by simp)
      | coe r => rw [Ideal.log_coe, if_pos (by exact_mod_cast hneg.le)]
    refine ⟨-126, by omega, by omega, ?_, key _ (by omega)⟩
    unfold eR
    rw [if_neg ht, hlog, div_ln2, EReal.bot_mul_coe_of_pos (inv_pos.mpr ln2_pos), Ideal.liftRound_bot, EReal.bot_add, max_eq_left bot_le]
    push_cast
    exact min_eq_right (by exact_mod_cast (by norm_num : (-126 : ℝ) ≤ 126))
  induction t using EReal.rec with
  | bot => exact neg (by simp)
  | top =>
    have hk255 : k = 255 := by
      by_contra hne
      exact h3 255 (by omega) le_rfl le_top
    refine ⟨126, by omega, by omega, ?_, key _ (by omega)⟩
    unfold eR
    rw [if_neg ht, Ideal.log_top, div_ln2, EReal.top_mul_coe_of_pos (inv_pos.mpr ln2_pos), Ideal.liftRound_top]
    rw [show (⊤ : EReal) + 1 = ⊤ from rfl, max_eq_right le_top, min_eq_left le_top]
    norm_num
  | coe r =>
    rcases lt_trichotomy r 0 with hr | hr | hr
    · exact neg (by exact_mod_cast hr)
    · exact absurd (by exact_mod_cast hr) ht
    have hfl : Ideal.liftRound Int.floor (Ideal.div (Ideal.log (r : EReal)) ((Real.log 2 : ℝ) : EReal)) = (((⌊Real.log r * (Real.log 2)⁻¹⌋ : ℤ) : ℝ) : EReal) := by
      rw [Ideal.log_coe, if_neg (not_le.mpr hr), div_ln2, ← EReal.coe_mul, Ideal.liftRound_coe]
    refine fin _ ?_ hfl
    have hP : ∀ j : ℕ, 1 ≤ j → j ≤ 254 → (pw j ≤ (r : EReal) ↔ (j : ℤ) - 127 ≤ ⌊Real.log r * (Real.log 2)⁻¹⌋) := by
      intro j hj hj'
      rw [pw_mid j hj hj', EReal.coe_le_coe_iff, pow_le_iff r hr]
    have hk255 : k ≠ 255 := by
      rintro rfl
      rcases h2 with h | h
      · omega
      · rw [pw_top] at h; exact absurd (top_le_iff.mp h) (EReal.coe_ne_top r)
    have hlow : k = 0 ∨ (k : ℤ) - 127 ≤ ⌊Real.log r * (Real.log 2)⁻¹⌋ := by
      rcases Nat.eq_zero_or_pos k with h | h
      · exact Or.inl h
      · exact Or.inr ((hP k h (by omega)).mp (h2.resolve_left (by omega)))
    have hup : k = 254 ∨ ⌊Real.log r * (Real.log 2)⁻¹⌋ < (k : ℤ) + 1 - 127 := by
      by_cases h : k = 254
      · exact Or.inl h
      · refine Or.inr (not_le.mp fun hc => h3 (k + 1) le_rfl (by omega) ((hP (k + 1) (by omega) (by omega)).mpr (by push_cast; exact hc)))
    omega

/-! ## The scale and its inverse -/

/-- A power of two from the exponent word. -/
theorem bits_pow (e : ℤ) (h0 : -126 ≤ e) (h1 : e ≤ 127) : Ideal.ofBits .f32 ((BitVec.ofInt 32 e + 127#32) <<< 23) = Ideal.exp2 ((e : ℝ) : EReal) := by
  obtain ⟨k, hk⟩ : ∃ k : ℕ, (k : ℤ) = e + 127 := ⟨(e + 127).toNat, by omega⟩
  have hb : BitVec.ofInt 32 e + 127#32 = BitVec.ofNat 32 k := by
    rw [show e = (k : ℤ) - 127 by omega]
    have : ∀ k : Fin 256, BitVec.ofInt 32 ((k.val : ℤ) - 127) + 127#32 = BitVec.ofNat 32 k.val := by decide +kernel
    exact this ⟨k, by omega⟩
  rw [hb]
  show pw k = _
  rw [pw_mid k (by omega) (by omega), Ideal.exp2_coe, show (k : ℤ) - 127 = e by omega]
  congr 1
  exact (Real.rpow_intCast 2 e).symm

/-- The kernel's scale is two to the reference's exponent. -/
theorem scS_eq (t : EReal) : scS t = Ideal.exp2 (eR t) := by
  obtain ⟨e, h0, h1, hr, hw⟩ := exp_eq t
  unfold scS
  rw [hw, hr, bits_pow e h0 (by omega)]

/-- The kernel's inverse scale is two to its negative, times the square root of one half. -/
theorem invS_eq (t : EReal) : invS t = Ideal.exp2 (0 - eR t) * rt := by
  obtain ⟨e, h0, h1, hr, hw⟩ := exp_eq t
  unfold invS
  rw [hw, hr]
  have hb : 127#32 - BitVec.ofInt 32 e = BitVec.ofInt 32 (-e) + 127#32 := by
    rw [BitVec.ofInt_neg, BitVec.sub_eq_add_neg, BitVec.add_comm]
  rw [hb, bits_pow (-e) (by omega) (by omega)]
  congr 2
  push_cast
  rw [zero_sub]

end Cert.KernelIdeal.Hand

end
-- ==== Proof.Ref.Base.lean ====
/-
  The formulas of the reference's results: the GELU matrix, the row's largest magnitude over 448, the codes and the scales; and its
  product and its row maximum at an index.
-/
module

public import proofs.«01_k».proof.Proof.Gen.ReferenceIdeal.Frame
public import proofs.«01_k».proof.Proof.KI.Exp
public import Idealize.ShloMosaic.Lib.Pointwise
public import Idealize.ShloMosaic.Lib.Pipeline.Value

@[expose] public section

set_option maxRecDepth 16384

noncomputable section

namespace Cert.ReferenceIdeal.Hand

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.KernelIdeal.Hand (eR absE)

/-- The square root of one half. -/
abbrev rh : EReal := ((Real.sqrt (1 / 2) : ℝ) : EReal)

/-- The pre-activation from one product sum. -/
def hR (acc xs ws b : EReal) : EReal := acc * xs * ws + b

/-- The GELU of a pre-activation. -/
def gR (h : EReal) : EReal := ((1 / 2 : ℝ) : EReal) * h * (1 + FloatOps.erf (F := Ideal) (φ := .f32) (h * rh))

/-- The GELU matrix. -/
def gMat (x : Vec Ideal S24576x1280 .fp8e4m3) (w : Vec Ideal S5120x1280 .fp8e4m3) (xs : Vec Ideal S24576x1 .f32) (ws : Vec Ideal S1x5120 .f32)
    (b : Vec Ideal S1x5120 .bf16) (R : Fin 24576) (C : Fin 5120) : EReal :=
  gR (hR (∑ k : Fin 1280, x (ix2 R k) * w (ix2 C k)) (xs (ix2 R 0)) (ws (ix2 0 C)) (b (ix2 0 C)))

/-- A row's largest magnitude, over 448. -/
def tR (g : Fin 24576 → Fin 5120 → EReal) (R : Fin 24576) : EReal := (Finset.univ.sup fun c : Fin 5120 => absE (g R c)) * Ideal.ofBits .f32 0x3B124925#32

/-- The codes from the matrix. -/
def cR (g : Fin 24576 → Fin 5120 → EReal) : Vec Ideal S24576x5120 .fp8e4m3 := fun y =>
  min (Ideal.ofBits .f32 0x43E00000#32) (max (Ideal.ofBits .f32 0xC3E00000#32) (g (y 0) (y 1) * Ideal.exp2 (0 - eR (tR g (y 0)))))

/-- The row of a scale's index. -/
abbrev rowAt (y : S48x1x512.Idx) : Fin 24576 := ⟨512 * (y 0).val + (y 2).val, by have h0 : (y 0).val < 48 := (y 0).isLt; have h2 : (y 2).val < 512 := (y 2).isLt; omega⟩

/-- The scales from the matrix. -/
def sR (g : Fin 24576 → Fin 5120 → EReal) : Vec Ideal S48x1x512 .f32 := fun y => Ideal.exp2 (eR (tR g (rowAt y)))

/-! ## The payloads -/

theorem half_bits : Ideal.ofBits .f32 0x3F000000#32 = ((1 / 2 : ℝ) : EReal) := by
  simp [Ideal.ofBits, Ideal.ieee, -EReal.coe_mul]; norm_num
theorem one_bits : Ideal.ofBits .f32 0x3F800000#32 = (1 : EReal) := by
  simp [Ideal.ofBits, Ideal.ieee, -EReal.coe_mul]; norm_num
theorem zero_bits : Ideal.ofBits .f32 0x00000000#32 = (0 : EReal) := by
  simp [Ideal.ofBits, Ideal.ieee]
theorem hi_bits : Ideal.ofBits .f32 0x42FC0000#32 = ((126 : ℝ) : EReal) := by
  simp [Ideal.ofBits, Ideal.ieee, -EReal.coe_mul]; norm_num
theorem lo_bits : Ideal.ofBits .f32 0xC2FC0000#32 = ((-126 : ℝ) : EReal) := by
  simp [Ideal.ofBits, Ideal.ieee, -EReal.coe_mul]; norm_num
theorem bot_bits : Ideal.ofBits .f32 0xFF800000#32 = (⊥ : EReal) := by simp [Ideal.ofBits, Ideal.ieee]

theorem pay4_at (x : Vec Ideal S24576x1280 .fp8e4m3) (w : Vec Ideal S5120x1280 .fp8e4m3) (xs : Vec Ideal S24576x1 .f32) (ws : Vec Ideal S1x5120 .f32)
    (b : Vec Ideal S1x5120 .bf16) (j : S24576x5120.Idx) : k0_pay4 (F := Ideal) x w xs ws b j = gMat x w xs ws b (j 0) (j 1) := by
  unfold k0_pay4
  pointwise [dot_S24576x1280_S5120x1280_S24576x5120_1_1_0_0_n_n]
  rw [half_bits]
  rfl

theorem max_at (v : FVec Ideal S24576x5120 .f32) (i : S24576.Idx) :
    (multiReduction .maximumf [1] S24576 v 0xFF800000#32 reduces_S24576x5120_S24576 (.inl rfl) rfl) i = Finset.univ.sup fun c : Fin 5120 => v (ix2 (i 0) c) := by
  pointwise
  rw [bot_bits]
  rfl

end Cert.ReferenceIdeal.Hand

end
-- ==== Proof.Ref.Value.lean ====
/-
  The reference's result arrays at an index: the GELU of the scaled product sum, its row maximum, the exponent of the row scale,
  the scale and the codes. The scalar exponent is the one of `KI.Exp`.
-/
module

public import proofs.«01_k».proof.Proof.Ref.Base
public import Idealize.ShloMosaic.Lib.Pointwise
public import Idealize.ShloMosaic.Lib.Pipeline.Value

@[expose] public section

set_option maxRecDepth 16384

noncomputable section

namespace Cert.ReferenceIdeal.Hand

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.KernelIdeal.Hand (eR absE)

section
variable (x : Vec Ideal S24576x1280 .fp8e4m3) (w : Vec Ideal S5120x1280 .fp8e4m3) (xs : Vec Ideal S24576x1 .f32) (ws : Vec Ideal S1x5120 .f32) (b : Vec Ideal S1x5120 .bf16)

/-- Row maxima as a column. -/
theorem col_at (v : FVec Ideal S24576 .f32) (j : S24576x1.Idx) :
    shapeCast S24576x1 v shapeCasts_S24576_S24576x1 j = v (fun a => match a with | ⟨0, _⟩ => (j 0 : Fin 24576) : S24576.Idx) := by
  have hj : (j 1 : ℕ) < 1 := (j 1).isLt
  exact shapeCast_apply _ shapeCasts_S24576_S24576x1 j _ (by
    rw [Shape.rowMajor_val_one, Shape.rowMajor_val_two]; show (j 0).val = (j 0).val * 1 + (j 1).val; omega)

/-- A column times one over 448. -/
theorem over448 (v : FVec Ideal S24576x1 .f32) (j : S24576x1.Idx) :
    mulf v (broadcast S24576x1 (Scalar.ofBits .f32 0x3B124925#32)) j = v j * Ideal.ofBits .f32 0x3B124925#32 := rfl

/-- Two to a column of rows, as the scales' blocks. -/
theorem blocks_at (v : FVec Ideal S24576x1 .f32) (y : S48x1x512.Idx) :
    shapeCast S48x1x512 (exp2 v) shapeCasts_S24576x1_S48x1x512 y = Ideal.exp2 (v (ix2 (rowAt y) (0 : Fin 1))) := by
  have h1 : (y 1 : ℕ) < 1 := (y 1).isLt
  exact shapeCast_apply (exp2 v) shapeCasts_S24576x1_S48x1x512 y (ix2 (rowAt y) (0 : Fin 1) : S24576x1.Idx) (by
      rw [Shape.rowMajor_val_two, Shape.rowMajor_val_three]; show (512 * (y 0).val + (y 2).val) * 1 + 0 = ((y 0).val * 1 + (y 1).val) * 512 + (y 2).val; omega)

/-- The largest magnitude of a row, off the matrix. -/
theorem sup_at (g : FVec Ideal S24576x5120 .f32) (gm : Fin 24576 → Fin 5120 → EReal) (h : ∀ j, g j = gm (j 0) (j 1)) (R : Fin 24576) :
    (Finset.univ.sup fun c : Fin 5120 => absf g (ix2 R c)) = Finset.univ.sup fun c : Fin 5120 => absE (gm R c) := by
  have e : (fun c : Fin 5120 => absf g (ix2 R c)) = fun c : Fin 5120 => absE (gm R c) := funext fun c => congrArg absE (h (ix2 R c))
  rw [e]

/-- The largest element of a row, as a column. -/
theorem maxcol_at (v : FVec Ideal S24576x5120 .f32) (j : S24576x1.Idx) :
    shapeCast S24576x1 (multiReduction .maximumf [1] S24576 v 0xFF800000#32 reduces_S24576x5120_S24576 (.inl rfl) rfl) shapeCasts_S24576_S24576x1 j
      = Finset.univ.sup fun c : Fin 5120 => v (ix2 (j 0 : Fin 24576) c) :=
  (col_at _ j).trans (max_at v _)

/-- The row maximum over 448. -/
theorem pay5_at (j : S24576x1.Idx) : k0_pay5 (F := Ideal) x w xs ws b j = tR (gMat x w xs ws b) (j 0) := by
  unfold k0_pay5 tR
  exact (over448 _ j).trans (congrArg (fun u : EReal => u * Ideal.ofBits .f32 0x3B124925#32)
    ((maxcol_at _ j).trans (sup_at _ (gMat x w xs ws b) (pay4_at x w xs ws b) (j 0))))

/-- The clamped exponent of a column of rows. -/
theorem exp_at (v : FVec Ideal S24576x1 .f32) (j : S24576x1.Idx) :
    k0_pay1 (F := Ideal) v (minimumf (broadcast S24576x1 (Scalar.ofBits .f32 0x42FC0000#32)) (maximumf (broadcast S24576x1 (Scalar.ofBits .f32 0xC2FC0000#32))
      (addf (floor (divf (log v) (broadcast S24576x1 (Named.named κ "ln2" 0x3F317218#32)))) (broadcast S24576x1 (Scalar.ofBits .f32 0x3F800000#32))))) j = eR (v j) := by
  unfold k0_pay1
  pointwise
  unfold eR
  rw [hi_bits, lo_bits]
  rfl

/-- The exponent of each row. -/
theorem pay1_at (j : S24576x1.Idx) :
    k0_pay1 (F := Ideal) (k0_pay5 x w xs ws b) (k0_pay6 x w xs ws b) j = eR (tR (gMat x w xs ws b) (j 0)) := by
  rw [← pay5_at]
  unfold k0_pay6
  exact exp_at _ j

/-- The scales. -/
theorem pay2_at (y : S48x1x512.Idx) :
    k0_pay2 (F := Ideal) (k0_pay5 x w xs ws b) (k0_pay6 x w xs ws b) y = sR (gMat x w xs ws b) y := by
  unfold k0_pay2
  rw [blocks_at, pay1_at]
  rfl

/-- The codes of a matrix and a column of exponents. -/
theorem codes_at (g : FVec Ideal S24576x5120 .f32) (v29 v39 : FVec Ideal S24576x1 .f32) (y : S24576x5120.Idx) :
    k0_pay3 (F := Ideal) g v29 v39 y = min (Ideal.ofBits .f32 0x43E00000#32) (max (Ideal.ofBits .f32 0xC3E00000#32)
      (g y * Ideal.exp2 (0 - k0_pay1 (F := Ideal) v29 v39 (ix2 (y 0 : Fin 24576) (0 : Fin 1))))) := by
  unfold k0_pay3
  generalize k0_pay1 (F := Ideal) v29 v39 = u
  pointwise
  rfl

/-- The codes. -/
theorem pay3_at (y : S24576x5120.Idx) :
    k0_pay3 (F := Ideal) (k0_pay4 x w xs ws b) (k0_pay5 x w xs ws b) (k0_pay6 x w xs ws b) y = cR (gMat x w xs ws b) y := by
  rw [codes_at, pay1_at, pay4_at]
  rfl

end

/-! ## The result arrays -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the codes window. -/
theorem out5_eq (x0 : Vec Ideal S24576x1280 .fp8e4m3) (x1 : Vec Ideal S24576x1 .f32) (x2 : Vec Ideal S5120x1280 .fp8e4m3) (x3 : Vec Ideal S1x5120 .f32)
    (x4 : Vec Ideal S1x5120 .bf16) : out0_5 x0 x1 x2 x3 x4 = cR (gMat x0 x2 x1 x3 x4) := by
  funext y
  rw [← pay3_at]
  unfold out0_5 k0_pay7 k0_pay8
  rw [View.canon_unit_zero hz2]
  simp only [View.ld_unit_zero (S := S24576x1280) hz2, View.ld_unit_zero (S := S5120x1280) hz2, View.ld_unit_zero (S := S24576x1) hz2, View.ld_unit_zero (S := S1x5120) hz2]

/-- What the body leaves in the scales window. -/
theorem out6_eq (x0 : Vec Ideal S24576x1280 .fp8e4m3) (x1 : Vec Ideal S24576x1 .f32) (x2 : Vec Ideal S5120x1280 .fp8e4m3) (x3 : Vec Ideal S1x5120 .f32)
    (x4 : Vec Ideal S1x5120 .bf16) : out0_6 x0 x1 x2 x3 x4 = sR (gMat x0 x2 x1 x3 x4) := by
  funext y
  rw [← pay2_at]
  unfold out0_6 k0_pay7 k0_pay8
  rw [View.canon_unit_zero hz3]
  simp only [View.ld_unit_zero (S := S24576x1280) hz2, View.ld_unit_zero (S := S5120x1280) hz2, View.ld_unit_zero (S := S24576x1) hz2, View.ld_unit_zero (S := S1x5120) hz2]

/-- Every block is its whole array. -/
theorem idx0 : ∀ t : Fin cfg0.N, win0_0.index t = 0 ∧ win0_1.index t = 0 ∧ win0_2.index t = 0 ∧ win0_3.index t = 0 ∧ win0_4.index t = 0 ∧ win0_5.index t = 0 ∧ win0_6.index t = 0 :=
  (by decide +kernel : ∀ t : Fin grid0.N, win0_0.index t = 0 ∧ win0_1.index t = 0 ∧ win0_2.index t = 0 ∧ win0_3.index t = 0 ∧ win0_4.index t = 0 ∧ win0_5.index t = 0 ∧ win0_6.index t = 0)

/-- Each input's block is its array. -/
theorem iblk0 (c : Dev nD) (t : Fin cfg0.N) : (iblk m c 0 t : Vec Ideal S24576x1280 .fp8e4m3) = V m c main_v0 :=
  Memref.read_access_unit_zero (Elt Ideal) main_v0 (funext fun a => by rw [(idx0 t).1]; exact Nat.zero_mul _) _ (V m c main_v0)
theorem iblk1 (c : Dev nD) (t : Fin cfg0.N) : (iblk m c 1 t : Vec Ideal S24576x1 .f32) = V m c main_v1 :=
  Memref.read_access_unit_zero (Elt Ideal) main_v1 (funext fun a => by rw [(idx0 t).2.1]; exact Nat.zero_mul _) _ (V m c main_v1)
theorem iblk2 (c : Dev nD) (t : Fin cfg0.N) : (iblk m c 2 t : Vec Ideal S5120x1280 .fp8e4m3) = V m c main_arg2 :=
  Memref.read_access_unit_zero (Elt Ideal) main_arg2 (funext fun a => by rw [(idx0 t).2.2.1]; exact Nat.zero_mul _) _ (V m c main_arg2)
theorem iblk3 (c : Dev nD) (t : Fin cfg0.N) : (iblk m c 3 t : Vec Ideal S1x5120 .f32) = V m c main_v2 :=
  Memref.read_access_unit_zero (Elt Ideal) main_v2 (funext fun a => by rw [(idx0 t).2.2.2.1]; exact Nat.zero_mul _) _ (V m c main_v2)
theorem iblk4 (c : Dev nD) (t : Fin cfg0.N) : (iblk m c 4 t : Vec Ideal S1x5120 .bf16) = V m c main_v3 :=
  Memref.read_access_unit_zero (Elt Ideal) main_v3 (funext fun a => by rw [(idx0 t).2.2.2.2.1]; exact Nat.zero_mul _) _ (V m c main_v3)

/-- The GELU matrix of the arrays the launch is entered with. -/
def gV (c : Dev nD) : Fin 24576 → Fin 5120 → EReal := gMat (V m c main_v0) (V m c main_arg2) (V m c main_v1) (V m c main_v2) (V m c main_v3)

/-- The one grid point. -/
def pt : Fin cfg0.N := ⟨0, by decide⟩

/-- The codes array after the run. -/
theorem final5 (c : Dev nD) : (dats m 0 c).arrAt 5 cfg0.N = cR (gV m c) := by
  refine (dats m 0 c).arrAt_eq_of_cover 5 (cR (gV m c)) (fun t hf => ?_) fun i => ⟨pt, by decide +kernel, ?_⟩
  · show (cfg0.win 5).cut (grid0.coords t) ((dats m 0 c).after 5 t) = _
    rw [after0_5, iblk0, iblk1, iblk2, iblk3, iblk4, out5_eq]
    exact (Memref.read_access_unit_zero (Elt Ideal) main_v4_0 (funext fun a => by rw [(idx0 t).2.2.2.2.2.1]; exact Nat.zero_mul _) _ (cR (gV m c))).symm
  · show i ∈ ((View.whole main_v4_0).slice (win0_5.rect pt)).set
    rw [View.set_slice_whole, Rect.mem_set_unit]
    intro a
    rw [(idx0 pt).2.2.2.2.2.1]
    have h0 : (i 0 : Nat) < 24576 := (i 0).isLt
    have h1 : (i 1 : Nat) < 5120 := (i 1).isLt
    match a with
    | ⟨0, _⟩ => show 0 * 24576 ≤ (i 0 : Nat) ∧ (i 0 : Nat) < 0 * 24576 + 24576; omega
    | ⟨1, _⟩ => show 0 * 5120 ≤ (i 1 : Nat) ∧ (i 1 : Nat) < 0 * 5120 + 5120; omega

/-- The scales array after the run. -/
theorem final6 (c : Dev nD) : (dats m 0 c).arrAt 6 cfg0.N = sR (gV m c) := by
  refine (dats m 0 c).arrAt_eq_of_cover 6 (sR (gV m c)) (fun t hf => ?_) fun i => ⟨pt, by decide +kernel, ?_⟩
  · show (cfg0.win 6).cut (grid0.coords t) ((dats m 0 c).after 6 t) = _
    rw [after0_6, iblk0, iblk1, iblk2, iblk3, iblk4, out6_eq]
    exact (Memref.read_access_unit_zero (Elt Ideal) main_v4_1 (funext fun a => by rw [(idx0 t).2.2.2.2.2.2]; exact Nat.zero_mul _) _ (sR (gV m c))).symm
  · show i ∈ ((View.whole main_v4_1).slice (win0_6.rect pt)).set
    rw [View.set_slice_whole, Rect.mem_set_unit]
    intro a
    rw [(idx0 pt).2.2.2.2.2.2]
    have h0 : (i 0 : Nat) < 48 := (i 0).isLt
    have h1 : (i 1 : Nat) < 1 := (i 1).isLt
    have h2 : (i 2 : Nat) < 512 := (i 2).isLt
    match a with
    | ⟨0, _⟩ => show 0 * 48 ≤ (i 0 : Nat) ∧ (i 0 : Nat) < 0 * 48 + 48; omega
    | ⟨1, _⟩ => show 0 * 1 ≤ (i 1 : Nat) ∧ (i 1 : Nat) < 0 * 1 + 1; omega
    | ⟨2, _⟩ => show 0 * 512 ≤ (i 2 : Nat) ∧ (i 2 : Nat) < 0 * 512 + 512; omega

/-- The run: the result arrays at the formulas, the arguments unchanged. -/
theorem run : θ_run defs (onTc (τ := τ) (main (F := Ideal))) ⟨m, fun _ => 0, ρ⟩ (fun r => ∀ c : Dev nD,
      r.2.mem ((c.tc : Thread nD τ).loc main_v4_0) = cR (gV m c)
      ∧ r.2.mem ((c.tc : Thread nD τ).loc main_v4_1) = sR (gV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.ReferenceIdeal.Hand

end
-- ==== Proof.Eq.lean ====
/-
  The kernel's result formulas are the reference's. The kernel carries the factor `√½` of the GELU's argument through its matrix and
  puts it back in the row maximum and in the inverse scale; the reference halves the pre-activation instead. A nonnegative finite
  factor moves through sums, products and row maxima, and `√½ · √½` is one half.
-/
module

public import proofs.«01_k».proof.Proof.KI.Final
public import proofs.«01_k».proof.Proof.KI.Exp
public import proofs.«01_k».proof.Proof.Ref.Value

@[expose] public section

set_option maxRecDepth 16384

noncomputable section

namespace Cert.Hand

open Idealize.ShloMosaic Idealize.ShloMosaic.TcCoe Idealize.ShloMosaic.Tactic
open Idealize.SL.Sem
open Cert.KernelIdeal.Hand (rt zS gS qS absE tS scS invS eR gW mxW cW sW gM rowOf scS_eq invS_eq)
open Cert.ReferenceIdeal.Hand (rh hR gR gMat tR cR sR gV rowAt)

/-! ## The factor -/

/-- The named constant is the square root of one half. -/
theorem rt_eq : rt = rh := rfl

theorem rh_nonneg : (0 : EReal) ≤ rh := EReal.coe_nonneg.mpr (Real.sqrt_nonneg _)
theorem rh_pos : 0 < Real.sqrt (1 / 2) := Real.sqrt_pos.mpr (by norm_num)

theorem rh_mul_rh : rh * rh = ((1 / 2 : ℝ) : EReal) := by
  rw [← EReal.coe_mul, Real.mul_self_sqrt (by norm_num)]

/-- The kernel's scaled pre-activation is the pre-activation times the factor. -/
theorem zS_eq (acc xs ws b : EReal) : zS acc xs ws b = hR acc xs ws b * rh := by
  unfold zS hR
  rw [rt_eq, EReal.right_distrib_of_nonneg_of_ne_top rh_nonneg (EReal.coe_ne_top _), ← mul_assoc]

/-- The reference's GELU is the kernel's unnormalised one times the factor. -/
theorem gR_eq (h : EReal) : gR h = gS (h * rh) * rh := by
  unfold gR gS
  rw [← rh_mul_rh]
  generalize (1 + FloatOps.erf (F := Ideal) (φ := .f32) (h * rh)) = e
  rw [mul_comm (rh * rh) h, ← mul_assoc, mul_right_comm (h * rh) e rh]

/-- A magnitude of a scaled number. -/
theorem absE_mul (a : EReal) : absE (a * rh) = absE a * rh := by
  show max (a * rh) (-(a * rh)) = max a (-a) * rh
  rw [← EReal.neg_mul]
  have hm : Monotone fun x : EReal => x * rh := fun x y hxy => mul_le_mul_of_nonneg_right hxy rh_nonneg
  exact hm.map_max.symm

/-- A maximum of scaled numbers. -/
theorem sup_mul {ι : Type*} (s : Finset ι) (f : ι → EReal) : (s.sup fun i => f i * rh) = s.sup f * rh :=
  (Finset.comp_sup_eq_sup_comp_of_is_total (fun x : EReal => x * rh) (fun x y hxy => mul_le_mul_of_nonneg_right hxy rh_nonneg)
    (EReal.bot_mul_coe_of_pos rh_pos)).symm

/-! ## The formulas -/

/-- The row's magnitude over 448, from scaled entries. -/
theorem tR_eq {g g' : Fin 24576 → Fin 5120 → EReal} (hg : ∀ R C, g' R C = g R C * rh) (R : Fin 24576) : tR g' R = tS (mxW g R) := by
  have e : (fun c : Fin 5120 => absE (g' R c)) = fun c => absE (g R c) * rh := funext fun c => by rw [hg, absE_mul]
  unfold tR tS mxW
  rw [e, sup_mul, rt_eq]

/-- The codes arrays agree. -/
theorem codes_eq {g g' : Fin 24576 → Fin 5120 → EReal} (hg : ∀ R C, g' R C = g R C * rh) : cR g' = cW g := by
  funext y
  have e : ∀ R C, g' R C * Ideal.exp2 (0 - eR (tR g' R)) = g R C * invS (tS (mxW g R)) := fun R C => by
    rw [tR_eq hg, invS_eq, hg, rt_eq, mul_assoc, mul_comm rh]
  exact congrArg (fun u => min (Ideal.ofBits .f32 0x43E00000#32) (max (Ideal.ofBits .f32 0xC3E00000#32) u)) (e (y 0) (y 1))

/-- The scales arrays agree. -/
theorem scales_eq {g g' : Fin 24576 → Fin 5120 → EReal} (hg : ∀ R C, g' R C = g R C * rh) : sR g' = sW g := by
  funext y
  have e : ∀ R, Ideal.exp2 (eR (tR g' R)) = scS (tS (mxW g R)) := fun R => by rw [tR_eq hg, scS_eq]
  exact e (rowAt y)

/-- The matrices agree up to the factor, where the row factors agree. -/
theorem gMat_eq (x0 : Vec Ideal KernelIdeal.S24576x1280 .fp8e4m3) (x1 : Vec Ideal KernelIdeal.S48x1x512 .f32) (x2 : Vec Ideal KernelIdeal.S5120x1280 .fp8e4m3)
    (x3 : Vec Ideal KernelIdeal.S1x5120 .f32) (x4 : Vec Ideal KernelIdeal.S1x5120 .bf16) (xs : Vec Ideal ReferenceIdeal.S24576x1 .f32)
    (h : ∀ R : Fin 24576, xs (ix2 R 0) = x1 (ix3 ⟨R.val / 512, by omega⟩ 0 ⟨R.val % 512, by omega⟩)) (R : Fin 24576) (C : Fin 5120) :
    gMat x0 x2 xs x3 x4 R C = gW x0 x1 x2 x3 x4 R C * rh := by
  unfold gMat gW
  rw [gR_eq, h, zS_eq]

/-! ## The entry arrays -/

/-- The row factors, reshaped two ways. -/
theorem xs_eq (v : Vec Ideal KernelIdeal.S3x8192x1 .f32) (h : KernelIdeal.S3x8192x1.ShapeCasts ReferenceIdeal.S24576x1)
    (h' : KernelIdeal.S3x8192x1.ShapeCasts KernelIdeal.S48x1x512) (R : Fin 24576) :
    shapeCast ReferenceIdeal.S24576x1 v h (ix2 R 0) = shapeCast KernelIdeal.S48x1x512 v h' (ix3 ⟨R.val / 512, by omega⟩ 0 ⟨R.val % 512, by omega⟩) := by
  refine (shapeCast_apply v h _ (ix3 ⟨R.val / 8192, by omega⟩ ⟨R.val % 8192, by omega⟩ 0) ?_).trans
    (shapeCast_apply v h' _ (ix3 ⟨R.val / 8192, by omega⟩ ⟨R.val % 8192, by omega⟩ 0) ?_).symm
  · rw [Shape.rowMajor_val_three, Shape.rowMajor_val_two]
    show (R.val / 8192 * 8192 + R.val % 8192) * 1 + 0 = R.val * 1 + 0
    omega
  · rw [Shape.rowMajor_val_three, Shape.rowMajor_val_three]
    show (R.val / 8192 * 8192 + R.val % 8192) * 1 + 0 = (R.val / 512 * 1 + 0) * 512 + R.val % 512
    omega

section kernel
open Cert.KernelIdeal Cert.KernelIdeal.Gen
variable (m : (ℓ : Loc nD τ sig) → Buf (Elt Ideal) ℓ) (c : Dev nD)

theorem VK0 : V m c main_v0 = shapeCast S24576x1280 (m ((c.tc : Thread nD τ).loc main_arg0)) shapeCasts_S3x8192x1280_S24576x1280 := by
  show StableHlo.after hostOps0 _ (Proc.devRef .tc main_v0) = _
  after_results
  rfl
theorem VK1 : V m c main_v1 = shapeCast S48x1x512 (m ((c.tc : Thread nD τ).loc main_arg1)) shapeCasts_S3x8192x1_S48x1x512 := by
  show StableHlo.after hostOps0 _ (Proc.devRef .tc main_v1) = _
  after_results
  rfl
theorem VK2 : V m c main_v2 = shapeCast S1x5120 (m ((c.tc : Thread nD τ).loc main_arg3)) shapeCasts_S5120_S1x5120 := by
  show StableHlo.after hostOps0 _ (Proc.devRef .tc main_v2) = _
  after_results
  rfl
theorem VK3 : V m c main_v3 = shapeCast S1x5120 (m ((c.tc : Thread nD τ).loc main_arg4)) shapeCasts_S5120_S1x5120 := by
  show StableHlo.after hostOps0 _ (Proc.devRef .tc main_v3) = _
  after_results
  rfl
end kernel

section reference
open Cert.ReferenceIdeal Cert.ReferenceIdeal.Gen
variable (m : (ℓ : Loc nD τ sig) → Buf (Elt Ideal) ℓ) (c : Dev nD)

theorem VR0 : V m c main_v0 = shapeCast S24576x1280 (m ((c.tc : Thread nD τ).loc main_arg0)) shapeCasts_S3x8192x1280_S24576x1280 := by
  show StableHlo.after hostOps0 _ (Proc.devRef .tc main_v0) = _
  after_results
  rfl
theorem VR1 : V m c main_v1 = shapeCast S24576x1 (m ((c.tc : Thread nD τ).loc main_arg1)) shapeCasts_S3x8192x1_S24576x1 := by
  show StableHlo.after hostOps0 _ (Proc.devRef .tc main_v1) = _
  after_results
  rfl
theorem VR2 : V m c main_v2 = shapeCast S1x5120 (m ((c.tc : Thread nD τ).loc main_arg3)) shapeCasts_S5120_S1x5120 := by
  show StableHlo.after hostOps0 _ (Proc.devRef .tc main_v2) = _
  after_results
  rfl
theorem VR3 : V m c main_v3 = shapeCast S1x5120 (m ((c.tc : Thread nD τ).loc main_arg4)) shapeCasts_S5120_S1x5120 := by
  show StableHlo.after hostOps0 _ (Proc.devRef .tc main_v3) = _
  after_results
  rfl
end reference

/-- From memories agreeing on the arguments the matrices agree up to the factor. -/
theorem gV_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (a0 : m' ((c.tc : Thread ReferenceIdeal.nD ReferenceIdeal.τ).loc ReferenceIdeal.main_arg0) = m ((c.tc : Thread KernelIdeal.nD KernelIdeal.τ).loc KernelIdeal.main_arg0))
    (a1 : m' ((c.tc : Thread ReferenceIdeal.nD ReferenceIdeal.τ).loc ReferenceIdeal.main_arg1) = m ((c.tc : Thread KernelIdeal.nD KernelIdeal.τ).loc KernelIdeal.main_arg1))
    (a2 : m' ((c.tc : Thread ReferenceIdeal.nD ReferenceIdeal.τ).loc ReferenceIdeal.main_arg2) = m ((c.tc : Thread KernelIdeal.nD KernelIdeal.τ).loc KernelIdeal.main_arg2))
    (a3 : m' ((c.tc : Thread ReferenceIdeal.nD ReferenceIdeal.τ).loc ReferenceIdeal.main_arg3) = m ((c.tc : Thread KernelIdeal.nD KernelIdeal.τ).loc KernelIdeal.main_arg3))
    (a4 : m' ((c.tc : Thread ReferenceIdeal.nD ReferenceIdeal.τ).loc ReferenceIdeal.main_arg4) = m ((c.tc : Thread KernelIdeal.nD KernelIdeal.τ).loc KernelIdeal.main_arg4))
    (R : Fin 24576) (C : Fin 5120) : gV m' c R C = gM m c R C * rh := by
  have e0 : (ReferenceIdeal.Gen.V m' c ReferenceIdeal.main_v0 : Vec Ideal KernelIdeal.S24576x1280 .fp8e4m3) = KernelIdeal.Gen.V m c KernelIdeal.main_v0 :=
    (VR0 m' c).trans ((congrArg (fun v => shapeCast KernelIdeal.S24576x1280 v _) a0).trans (VK0 m c).symm)
  have e2 : (ReferenceIdeal.Gen.V m' c ReferenceIdeal.main_arg2 : Vec Ideal KernelIdeal.S5120x1280 .fp8e4m3) = KernelIdeal.Gen.V m c KernelIdeal.main_arg2 :=
    (ReferenceIdeal.Gen.V_main_arg2 m' c).trans (a2.trans (KernelIdeal.Gen.V_main_arg2 m c).symm)
  have e3 : (ReferenceIdeal.Gen.V m' c ReferenceIdeal.main_v2 : Vec Ideal KernelIdeal.S1x5120 .f32) = KernelIdeal.Gen.V m c KernelIdeal.main_v2 :=
    (VR2 m' c).trans ((congrArg (fun v => shapeCast KernelIdeal.S1x5120 v _) a3).trans (VK2 m c).symm)
  have e4 : (ReferenceIdeal.Gen.V m' c ReferenceIdeal.main_v3 : Vec Ideal KernelIdeal.S1x5120 .bf16) = KernelIdeal.Gen.V m c KernelIdeal.main_v3 :=
    (VR3 m' c).trans ((congrArg (fun v => shapeCast KernelIdeal.S1x5120 v _) a4).trans (VK3 m c).symm)
  unfold gV gM
  rw [e0, e2, e3, e4, VK1, VR1, a1]
  exact gMat_eq _ _ _ _ _ _ (xs_eq _ _ _) R C

end Cert.Hand

end
-- ==== Proof.lean ====
module

public import proofs.«01_k».proof.Defs
public import proofs.«01_k».proof.Proof.Gen.Kernel.Frame
public import proofs.«01_k».proof.Proof.Gen.ReferenceIdeal.Frame
public import proofs.«01_k».proof.Proof.KB.Frame
public import proofs.«01_k».proof.Proof.KI.Final
public import proofs.«01_k».proof.Proof.Ref.Value
public import proofs.«01_k».proof.Proof.Eq
public import Idealize.ShloMosaic.Adequacy
public import Idealize.ShloMosaic.Init

@[expose] public section

noncomputable section

namespace Cert.Proof

open Idealize.ShloMosaic Idealize.SL.Sem Cert.Kernel

/-- The named constant. -/
theorem preserves : Cert.preserves_Kernel_KernelIdeal :=
  IdealRules.named_const.statement Cert.KernelIdeal.κ "sqrt_half" .f32 0x3F3504F3#32 ((Real.sqrt (1 / 2) : ℝ) : EReal) rfl

/-- The kernel's results are the reference's. -/
theorem algebraic : Cert.algebraic_KernelIdeal_ReferenceIdeal (hKernelIdeal := Cert.KernelIdeal.Gen.facts) (hReferenceIdeal := Cert.ReferenceIdeal.Gen.facts) := by
  intro m g m' g' _ ha
  have hg := fun c => Cert.Hand.gV_eq m m' c (ha c).1 (ha c).2.1 (ha c).2.2.1 (ha c).2.2.2.1 (ha c).2.2.2.2
  refine ⟨fun c => Cert.KernelIdeal.Hand.cW (Cert.KernelIdeal.Hand.gM m c), fun c => Cert.KernelIdeal.Hand.sW (Cert.KernelIdeal.Hand.gM m c),
    (θ_run Cert.KernelIdeal.defs _ _).mono (fun r h c => ?_) (Cert.KernelIdeal.Hand.run_main_quiescent m g),
    (θ_run Cert.ReferenceIdeal.defs _ _).mono (fun r h c => ?_) (Cert.ReferenceIdeal.Hand.run m' g')⟩
  · have hr := Cert.KernelIdeal.Hand.results m r h.1 c
    exact ⟨hr.1, hr.2, Cert.KernelIdeal.Hand.args m r h.1 c⟩
  · exact ⟨(h c).1.trans (Cert.Hand.codes_eq (hg c)), (h c).2.1.trans (Cert.Hand.scales_eq (hg c)), (h c).2.2⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    preserves, algebraic⟩

end Cert.Proof

end
